-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_degrees_positive [hPre_degrees_positive : Cert.Pre_degrees_positive.Facts] (m : (ℓ : Loc Cert.KernelIdeal.nD Cert.KernelIdeal.τ Cert.KernelIdeal.sig) → Buf (Elt Ideal) ℓ) : Prop :=
  ∀ c : Dev Cert.KernelIdeal.nD,
    (Cert.Pre_degrees_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_degrees_positive [hPre_degrees_positive : Cert.Pre_degrees_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_degrees_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_degrees_positive [hKernelIdeal : Cert.KernelIdeal.Facts] [hPre_degrees_positive : Cert.Pre_degrees_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_degrees_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_degrees_positive [hReferenceIdeal : Cert.ReferenceIdeal.Facts] [hPre_degrees_positive : Cert.Pre_degrees_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_degrees_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_degrees_positive [hKernelIdeal : Cert.KernelIdeal.Facts] [hReferenceIdeal : Cert.ReferenceIdeal.Facts] [hPre_degrees_positive : Cert.Pre_degrees_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_degrees_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_degrees_positive : Cert.Pre_degrees_positive.Facts),
    quiescent_Kernel (hKernel := hKernel)
    ∧ quiescent_KernelIdeal (hKernelIdeal := hKernelIdeal)
    ∧ quiescent_KernelIdeal_pre_degrees_positive (hKernelIdeal := hKernelIdeal) (hPre_degrees_positive := hPre_degrees_positive)
    ∧ quiescent_ReferenceIdeal (hReferenceIdeal := hReferenceIdeal)
    ∧ quiescent_ReferenceIdeal_pre_degrees_positive (hReferenceIdeal := hReferenceIdeal) (hPre_degrees_positive := hPre_degrees_positive)
    ∧ preserves_Kernel_KernelIdeal
    ∧ algebraic_KernelIdeal_ReferenceIdeal_pre_degrees_positive (hKernelIdeal := hKernelIdeal) (hReferenceIdeal := hReferenceIdeal) (hPre_degrees_positive := hPre_degrees_positive)
-- ==== Pre_degrees_positive.lean ====
abbrev S8x4096x128 : Shape := ⟨3, ![8, 4096, 128]⟩
abbrev S4096x4096 : Shape := ⟨2, ![4096, 4096]⟩
abbrev S3 : Shape := ⟨1, ![3]⟩
abbrev S128x128 : Shape := ⟨2, ![128, 128]⟩
abbrev S128 : Shape := ⟨1, ![128]⟩
abbrev S_ : Shape := ⟨0, ![]⟩
abbrev S1 : Shape := ⟨1, ![1]⟩
abbrev S4096 : Shape := ⟨1, ![4096]⟩

class Facts : Prop where
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S3_S1_0 : S3.Slices ![0] S1
  shapeCasts_S1_S_ : S1.ShapeCasts S_
  bcast_S_S4096x4096 : S_.BroadcastsInDim S4096x4096 (![] : Fin 0 → Fin S4096x4096.rank)
  slices_S3_S1_1 : S3.Slices ![1] S1
  slices_S3_S1_2 : S3.Slices ![2] S1
  reducesTo_S4096x4096_S4096_d0 : S4096x4096.ReducesTo [0] S4096
  bcast_S_S4096 : S_.BroadcastsInDim S4096 (![] : Fin 0 → Fin S4096.rank)

variable [Facts]

def fn_part1 {F : FTy → Type} [FloatOps F] (main_arg3 : FVec F S4096x4096 .f32) (main_v18 : FVec F S4096x4096 .f32) (main_v20 : FVec F S_ .f32) : IVec S4096 1 :=
  let main_v21 : FVec F S4096x4096 .f32 := broadcastInDim S4096x4096 ![] bcast_S_S4096x4096 main_v20
  let main_v22 : FVec F S4096x4096 .f32 := mulf main_v21 main_arg3
  let main_v23 : FVec F S4096x4096 .f32 := addf main_v18 main_v22
  let main_v24 : IVec S4096x4096 32 := iotaInDim S4096x4096 32 0
  let main_v25 : IVec S4096x4096 32 := iotaInDim S4096x4096 32 1
  let main_c : IVec S_ 32 := constantI S_ 32 0#32
  let main_v26 : IVec S4096x4096 32 := broadcastInDim S4096x4096 ![] bcast_S_S4096x4096 main_c
  let main_v27 : IVec S4096x4096 32 := addi main_v24 main_v26
  let main_v28 : IVec S4096x4096 1 := cmpi .eq main_v27 main_v25
  let main_v29 : FVec F S4096x4096 .f32 := uitofp .f32 main_v28
  let main_v30 : FVec F S4096x4096 .f32 := addf main_v23 main_v29
  let main_cst_2 : FVec F S_ .f32 := constant S_ .f32 0x00000000#32
  let main_v31 : FVec F S4096 .f32 := (fun x v => Host.reduceAdd x v reducesTo_S4096x4096_S4096_d0 h_S_) main_v30 main_cst_2
  let main_cst_3 : FVec F S_ .f32 := constant S_ .f32 0x00000000#32
  let main_v32 : FVec F S4096 .f32 := broadcastInDim S4096 ![] bcast_S_S4096 main_cst_3
  let main_v33 : IVec S4096 1 := cmpf .ogt main_v31 main_v32
  main_v33

def fn {F : FTy → Type} [FloatOps F] (main_arg0 : FVec F S8x4096x128 .f32) (main_arg1 : FVec F S4096x4096 .f32) (main_arg2 : FVec F S4096x4096 .f32) (main_arg3 : FVec F S4096x4096 .f32) (main_arg4 : FVec F S3 .f32) (main_arg5 : FVec F S128x128 .f32) (main_arg6 : FVec F S128 .f32) : IVec S4096 1 :=
  let main_cst : FVec F S_ .f32 := constant S_ .f32 0xFF800000#32
  let main_v0 : FVec F S_ .f32 := (fun x v => Host.reduce FloatOps.maximumf x v reducesTo_S3_S_d0 h_S_) main_arg4 main_cst
  let main_cst_0 : FVec F S_ .f32 := constant S_ .f32 0xFF800000#32
  let main_v1 : FVec F S_ .f32 := maximumf main_cst_0 main_v0
  let main_v2 : FVec F S1 .f32 := broadcastInDim S1 ![] bcast_S_S1 main_v1
  let main_v3 : FVec F S3 .f32 := broadcastInDim S3 ![0] bcast_S1_S3_0 main_v2
  let main_v4 : FVec F S3 .f32 := subf main_arg4 main_v3
  let main_v5 : FVec F S3 .f32 := Host.exp main_v4
  let main_cst_1 : FVec F S_ .f32 := constant S_ .f32 0x00000000#32
  let main_v6 : FVec F S_ .f32 := (fun x v => Host.reduceAdd x v reducesTo_S3_S_d0 h_S_) main_v5 main_cst_1
  let main_v7 : FVec F S1 .f32 := broadcastInDim S1 ![] bcast_S_S1 main_v6
  let main_v8 : FVec F S3 .f32 := broadcastInDim S3 ![0] bcast_S1_S3_0 main_v7
  let main_v9 : FVec F S3 .f32 := Host.divf main_v5 main_v8
  let main_v10 : FVec F S1 .f32 := (extractStridedSlice S1 ![0] · slices_S3_S1_0) main_v9
  let main_v11 : FVec F S_ .f32 := shapeCast S_ main_v10 shapeCasts_S1_S_
  let main_v12 : FVec F S4096x4096 .f32 := broadcastInDim S4096x4096 ![] bcast_S_S4096x4096 main_v11
  let main_v13 : FVec F S4096x4096 .f32 := mulf main_v12 main_arg1
  let main_v14 : FVec F S1 .f32 := (extractStridedSlice S1 ![1] · slices_S3_S1_1) main_v9
  let main_v15 : FVec F S_ .f32 := shapeCast S_ main_v14 shapeCasts_S1_S_
  let main_v16 : FVec F S4096x4096 .f32 := broadcastInDim S4096x4096 ![] bcast_S_S4096x4096 main_v15
  let main_v17 : FVec F S4096x4096 .f32 := mulf main_v16 main_arg2
  let main_v18 : FVec F S4096x4096 .f32 := addf main_v13 main_v17
  let main_v19 : FVec F S1 .f32 := (extractStridedSlice S1 ![2] · slices_S3_S1_2) main_v9
  let main_v20 : FVec F S_ .f32 := shapeCast S_ main_v19 shapeCasts_S1_S_
  fn_part1 (F := F) main_arg3 main_v18 main_v20
-- ==== Kernel.lean ====
abbrev S8x4096x128 : Shape := ⟨3, ![8, 4096, 128]⟩
abbrev S4096x4096 : Shape := ⟨2, ![4096, 4096]⟩
abbrev S3 : Shape := ⟨1, ![3]⟩
abbrev S128x128 : Shape := ⟨2, ![128, 128]⟩
abbrev S128 : Shape := ⟨1, ![128]⟩
abbrev S1x3 : Shape := ⟨2, ![1, 3]⟩
abbrev S1x4096 : Shape := ⟨2, ![1, 4096]⟩
abbrev S4096x1024 : Shape := ⟨2, ![4096, 1024]⟩
abbrev S256x4096 : Shape := ⟨2, ![256, 4096]⟩
abbrev S8x256x128 : Shape := ⟨3, ![8, 256, 128]⟩
abbrev S256x1024 : Shape := ⟨2, ![256, 1024]⟩
abbrev S1 : Shape := ⟨1, ![1]⟩
abbrev S1x1 : Shape := ⟨2, ![1, 1]⟩
abbrev S4096 : Shape := ⟨1, ![4096]⟩
abbrev S256x256 : Shape := ⟨2, ![256, 256]⟩
abbrev S1x256x128 : Shape := ⟨3, ![1, 256, 128]⟩
abbrev S256x128 : Shape := ⟨2, ![256, 128]⟩
abbrev S4096x1 : Shape := ⟨2, ![4096, 1]⟩
abbrev S1x128 : Shape := ⟨2, ![1, 128]⟩
abbrev S1024x1 : Shape := ⟨2, ![1024, 1]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 14
  | .vmem => 25
  | .smem => 0
  | _ => 0

abbrev bufTy : (tb : Table) → Fin (tcTables nBuf tb) → BufTy
  | .hbm, ⟨0, _⟩ => ⟨S8x4096x128, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S3, .f32⟩
  | .hbm, ⟨5, _⟩ => ⟨S128x128, .f32⟩
  | .hbm, ⟨6, _⟩ => ⟨S128, .f32⟩
  | .hbm, ⟨7, _⟩ => ⟨S1x3, .f32⟩
  | .hbm, ⟨8, _⟩ => ⟨S4096x4096, .bf16⟩
  | .hbm, ⟨9, _⟩ => ⟨S1x4096, .f32⟩
  | .hbm, ⟨10, _⟩ => ⟨S4096x1024, .bf16⟩
  | .hbm, ⟨11, _⟩ => ⟨S4096x1, .f32⟩
  | .hbm, ⟨12, _⟩ => ⟨S1x128, .f32⟩
  | .hbm, ⟨13, _⟩ => ⟨S8x4096x128, .f32⟩
  | .local _ .vmem, ⟨0, _⟩ => ⟨S1x3, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S8x256x128, .f32⟩
  | .local _ .vmem, ⟨8, _⟩ => ⟨S8x256x128, .f32⟩
  | .local _ .vmem, ⟨9, _⟩ => ⟨S128x128, .f32⟩
  | .local _ .vmem, ⟨10, _⟩ => ⟨S256x4096, .bf16⟩
  | .local _ .vmem, ⟨11, _⟩ => ⟨S256x4096, .bf16⟩
  | .local _ .vmem, ⟨12, _⟩ => ⟨S1x4096, .f32⟩
  | .local _ .vmem, ⟨13, _⟩ => ⟨S256x1024, .bf16⟩
  | .local _ .vmem, ⟨14, _⟩ => ⟨S256x1024, .bf16⟩
  | .local _ .vmem, ⟨15, _⟩ => ⟨S4096x1, .f32⟩
  | .local _ .vmem, ⟨16, _⟩ => ⟨S1024x1, .f32⟩
  | .local _ .vmem, ⟨17, _⟩ => ⟨S1024x1, .f32⟩
  | .local _ .vmem, ⟨18, _⟩ => ⟨S1x128, .f32⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S8x1024x128, .f32⟩
  | .local _ .vmem, ⟨23, _⟩ => ⟨S8x1024x128, .f32⟩
  | .local _ .vmem, ⟨24, _⟩ => ⟨S4096x1024, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_14 : Index := 0#32
  let arg0 : BitVec 32 := BitVec.ofNat 32 (i 0).val
  let c256_i32 : BitVec 32 := 256#32
  let v38 : BitVec 32 := Scalar.muli arg0 c256_i32
  let v39 : Index := Scalar.indexCast v38
  ![0, v39.toNat]
def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_9 : BitVec 32 := 0#32
  let v29 : BitVec 1 := Scalar.cmpi .ne v28 c0_i32_9
  v29

def k0_cond2 (i : grid0.Coords) : BitVec 1 :=
  let arg0 : BitVec 32 := BitVec.ofNat 32 (i 0).val
  let c0_i32_10 : BitVec 32 := 0#32
  let v30 : BitVec 1 := Scalar.cmpi .ne arg0 c0_i32_10
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S4096x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x4096x128 : Shape := ⟨3, ![8, 4096, 128]⟩
abbrev S4096x4096 : Shape := ⟨2, ![4096, 4096]⟩
abbrev S3 : Shape := ⟨1, ![3]⟩
abbrev S128x128 : Shape := ⟨2, ![128, 128]⟩
abbrev S128 : Shape := ⟨1, ![128]⟩
abbrev S_ : Shape := ⟨0, ![]⟩
abbrev S1 : Shape := ⟨1, ![1]⟩
abbrev S4096 : Shape := ⟨1, ![4096]⟩
abbrev S4096x1 : Shape := ⟨2, ![4096, 1]⟩
abbrev S1x4096 : Shape := ⟨2, ![1, 4096]⟩
abbrev S8x128x4096 : Shape := ⟨3, ![8, 128, 4096]⟩
abbrev S1x1x128 : Shape := ⟨3, ![1, 1, 128]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S3, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S3, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S3, .f32⟩
  | .hbm, ⟨19, _⟩ => ⟨S3, .f32⟩
  | .hbm, ⟨20, _⟩ => ⟨S1, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S1, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S1, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .i1⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S1x4096, .f32⟩
  | .hbm, ⟨59, _⟩ => ⟨S4096x4096, .f32⟩
  | .hbm, ⟨60, _⟩ => ⟨S4096x4096, .f32⟩
  | .hbm, ⟨61, _⟩ => ⟨S8x4096x128, .f32⟩
  | .hbm, ⟨62, _⟩ => ⟨S8x128x4096, .f32⟩
  | .hbm, ⟨63, _⟩ => ⟨S8x4096x128, .f32⟩
  | .hbm, ⟨64, _⟩ => ⟨S1x1x128, .f32⟩
  | .hbm, ⟨65, _⟩ => ⟨S8x4096x128, .f32⟩
  | .hbm, ⟨66, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Region0Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call's body: the two runs of its kernel

The kernel's two conditionals split the grid in two: the first point stores the column sums, every later point adds
to them. -/

/-- The first conditional is taken. -/
abbrev cond0_0 (i : grid0.Coords) : Prop := k0_cond1 i = 1#1

/-- It is taken at the first point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val = 0)

/-- The second conditional is taken. -/
abbrev cond0_1 (i : grid0.Coords) : Prop := k0_cond2 i = 1#1

/-- It is taken at every later point. -/
theorem hcond0_1 : ∀ t : Fin cfg0.N, cond0_1 (grid0.coords t) ↔ 1 ≤ t.val :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ 1 ≤ t.val)

section Runs
variable (c : Dev nD) (i : grid0.Coords)
  (arg1 : Memref sig .tc .vmem S1x3 .f32) (harg1 : arg1.IsWhole)
  (arg2 : Memref sig .tc .vmem S256x4096 .f32) (harg2 : arg2.IsWhole)
  (arg3 : Memref sig .tc .vmem S256x4096 .f32) (harg3 : arg3.IsWhole)
  (arg4 : Memref sig .tc .vmem S256x4096 .f32) (harg4 : arg4.IsWhole)
  (arg5 : Memref sig .tc .vmem S8x256x128 .f32) (harg5 : arg5.IsWhole)
  (arg6 : Memref sig .tc .vmem S128x128 .f32) (harg6 : arg6.IsWhole)
  (arg7 : Memref sig .tc .vmem S256x4096 .bf16) (harg7 : arg7.IsWhole)
  (arg8 : Memref sig .tc .vmem S1x4096 .f32) (harg8 : arg8.IsWhole)
  (arg9 : Memref sig .tc .vmem S256x1024 .bf16) (harg9 : arg9.IsWhole)

set_option maxHeartbeats 1000000 in
/-- The body at the first point, on whole buffers: the inputs keep their contents, and each output ends with the pieces the run finds written over what it held. -/
noncomputable def kernelRun0_A (hc0 : cond0_0 i) (hc1 : ¬cond0_1 i)
    (x0 : Vec F S1x3 .f32) (x1 x2 x3 : Vec F S256x4096 .f32) (x4 : Vec F S8x256x128 .f32) (x5 : Vec F S128x128 .f32) :
    Σ' (L6 : List (View.Piece (Elt F) S256x4096 .bf16)), Σ' (L7 : List (View.Piece (Elt F) S1x4096 .f32)),
      { L8 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__combine_kernel_eq_skeleton]; unfold cc0__combine_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 1000000 in
/-- The body at a later point: the same, the running column sums read at `xo7` before they are stored. -/
noncomputable def kernelRun0_B (hc0 : ¬cond0_0 i) (hc1 : cond0_1 i)
    (x0 : Vec F S1x3 .f32) (x1 x2 x3 : Vec F S256x4096 .f32) (x4 : Vec F S8x256x128 .f32) (x5 : Vec F S128x128 .f32) (xo7 : Vec F S1x4096 .f32) :
    Σ' (L6 : List (View.Piece (Elt F) S256x4096 .bf16)), Σ' (L7 : List (View.Piece (Elt F) S1x4096 .f32)),
      { L8 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__combine_kernel_eq_skeleton]; unfold cc0__combine_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Runs

end Cert.Hand

end
-- ==== Proof.Region0.lean ====
module

public import proofs.«01_k».proof.Proof.Region0Run

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call: what it leaves, and its body's obligation

Everything is stated over the buffer contents `V` the call is entered with. -/

section Region
variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One buffer of each output, through which its contents are stated (the choice does not matter). -/
abbrev VO0_6 : View sig .tc .vmem S256x4096 .bf16 := (Memref.whole cc0_stg6_0 : Memref sig .tc .vmem S256x4096 .bf16).view
abbrev VO0_7 : View sig .tc .vmem S1x4096 .f32 := (Memref.whole cc0_stg7_0 : Memref sig .tc .vmem S1x4096 .f32).view
abbrev VO0_8 : View sig .tc .vmem S256x1024 .bf16 := (Memref.whole cc0_stg8_0 : Memref sig .tc .vmem S256x1024 .bf16).view

/-! Each window's current buffer at point `t`, and that it is whole. -/
abbrev ms0_0 (t : Fin cfg0.N) : Memref sig .tc .vmem S1x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)

/-- The column sums' window is stored into at every point. -/
theorem live0_7 : ∀ t : Fin cfg0.N, cfg0.idle 7 (grid0.coords t) = false := by decide +kernel

/-- Where the column sums' buffer holds nothing of the call's: before the first point, and after the only write-back. -/
def freshTab0_7 : ℕ → Bool
  | 0 => true
  | n + 1 => (0x8000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem notFresh0_7 : ∀ t : Fin cfg0.N, 1 ≤ t.val → cfg0.fresh 7 t.val = false := by
  intro t; rw [fresh0_7_eq t]; revert t; decide +kernel

/-- The first point's run at the point's own buffers and input blocks. -/
def run0_A (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    ((hcond0_0 t).mpr h) (fun h1 => absurd ((hcond0_1 t).mp h1) (by omega))
    (iblk0 V c 0 t) (iblk0 V c 1 t) (iblk0 V c 2 t) (iblk0 V c 3 t) (iblk0 V c 4 t) (iblk0 V c 5 t)

/-- What it leaves in the three outputs' buffers. -/
def outs0_A (c : Dev nD) (t : Fin cfg0.N) (h : t.val = 0) : Vec F S256x4096 .bf16 × Vec F S1x4096 .f32 × Vec F S256x1024 .bf16 :=
  (VO0_6.read (Elt F) (VO0_6.writes (Elt F) VO0_6.junk (run0_A V c t h).1),
   VO0_7.read (Elt F) (VO0_7.writes (Elt F) VO0_7.junk (run0_A V c t h).2.1),
   VO0_8.read (Elt F) (VO0_8.writes (Elt F) VO0_8.junk (run0_A V c t h).2.2.1))

theorem cover0_A_6 (c : Dev nD) (t : Fin cfg0.N) (h : t.val = 0) (y : S256x4096.Idx) :
    ∃ pc ∈ (run0_A V c t h).1, y ∈ pc.1.set :=
  View.cover_of_wholeMem (run0_A V c t h).1 (by sl_whole_mem) y

theorem cover0_A_7 (c : Dev nD) (t : Fin cfg0.N) (h : t.val = 0) (y : S1x4096.Idx) :
    ∃ pc ∈ (run0_A V c t h).2.1, y ∈ pc.1.set :=
  View.cover_of_tiledL (run0_A V c t h).2.1 S1x4096.size (by sl_kernel_rfl) y

theorem cover0_A_8 (c : Dev nD) (t : Fin cfg0.N) (h : t.val = 0) (y : S256x1024.Idx) :
    ∃ pc ∈ (run0_A V c t h).2.2.1, y ∈ pc.1.set :=
  View.cover_of_tiledL (run0_A V c t h).2.2.1 S256x128.size (by sl_kernel_rfl) y

/-- The later point's run at the point's own buffers and input blocks. -/
def run0_B (c : Dev nD) (t : Fin cfg0.N) (h : 1 ≤ t.val) (xo7 : Vec F S1x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (fun h0 => absurd ((hcond0_0 t).mp h0) (by omega)) ((hcond0_1 t).mpr h)
    (iblk0 V c 0 t) (iblk0 V c 1 t) (iblk0 V c 2 t) (iblk0 V c 3 t) (iblk0 V c 4 t) (iblk0 V c 5 t) xo7

/-- What it leaves in the three outputs' buffers. -/
def outs0_B (c : Dev nD) (t : Fin cfg0.N) (h : 1 ≤ t.val) (xo7 : Vec F S1x4096 .f32) : Vec F S256x4096 .bf16 × Vec F S1x4096 .f32 × Vec F S256x1024 .bf16 :=
  (VO0_6.read (Elt F) (VO0_6.writes (Elt F) VO0_6.junk (run0_B V c t h xo7).1),
   VO0_7.read (Elt F) (VO0_7.writes (Elt F) VO0_7.junk (run0_B V c t h xo7).2.1),
   VO0_8.read (Elt F) (VO0_8.writes (Elt F) VO0_8.junk (run0_B V c t h xo7).2.2.1))

theorem cover0_B_6 (c : Dev nD) (t : Fin cfg0.N) (h : 1 ≤ t.val) (xo7 : Vec F S1x4096 .f32) (y : S256x4096.Idx) :
    ∃ pc ∈ (run0_B V c t h xo7).1, y ∈ pc.1.set :=
  View.cover_of_wholeMem (run0_B V c t h xo7).1 (by sl_whole_mem) y

theorem cover0_B_7 (c : Dev nD) (t : Fin cfg0.N) (h : 1 ≤ t.val) (xo7 : Vec F S1x4096 .f32) (y : S1x4096.Idx) :
    ∃ pc ∈ (run0_B V c t h xo7).2.1, y ∈ pc.1.set :=
  View.cover_of_tiledL (run0_B V c t h xo7).2.1 S1x4096.size (by sl_kernel_rfl) y

theorem cover0_B_8 (c : Dev nD) (t : Fin cfg0.N) (h : 1 ≤ t.val) (xo7 : Vec F S1x4096 .f32) (y : S256x1024.Idx) :
    ∃ pc ∈ (run0_B V c t h xo7).2.2.1, y ∈ pc.1.set :=
  View.cover_of_tiledL (run0_B V c t h xo7).2.2.1 S256x128.size (by sl_kernel_rfl) y

/-- What the outputs' buffers hold after point `n`: the first point's contents, then each later point's over the
column sums the point before left. -/
def outsAt0 (c : Dev nD) : (n : ℕ) → n < cfg0.N → Vec F S256x4096 .bf16 × Vec F S1x4096 .f32 × Vec F S256x1024 .bf16
  | 0, hn => outs0_A V c ⟨0, hn⟩ rfl
  | n + 1, hn => outs0_B V c ⟨n + 1, hn⟩ (Nat.le_add_left 1 n) (outsAt0 c n (Nat.lt_of_succ_lt hn)).2.1

theorem outsAt0_A (c : Dev nD) (t : Fin cfg0.N) (h : t.val = 0) : outsAt0 V c t.val t.isLt = outs0_A V c t h := by
  obtain ⟨n, hn⟩ := t
  cases n with
  | zero => rfl
  | succ n => exact absurd h (Nat.succ_ne_zero n)

theorem outsAt0_B (c : Dev nD) (t : Fin cfg0.N) (h : 1 ≤ t.val) :
    outsAt0 V c t.val t.isLt
      = outs0_B V c t h (outsAt0 V c (t.val - 1) (Nat.lt_of_le_of_lt (Nat.sub_le _ _) t.isLt)).2.1 := by
  obtain ⟨n, hn⟩ := t
  cases n with
  | zero => exact absurd h (Nat.not_succ_le_zero 0)
  | succ n => rfl

/-- The first call's proof data: the arrays as entered, the inputs' blocks in place, the outputs at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

/-! An input's current buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; try rfl)

/-- At a later point the column sums' buffer holds what the point before left. -/
theorem before0_7_B (c : Dev nD) (t : Fin cfg0.N) (h : 1 ≤ t.val) (d) :
    (dat0 V c).before 7 t d = (outsAt0 V c (t.val - 1) (Nat.lt_of_le_of_lt (Nat.sub_le _ _) t.isLt)).2.1 := by
  rw [Dat.before_out_traj _ 7 rfl (fun _ _ => rfl)
      (fun t _ hi _ => absurd ((live0_7 t).symm.trans hi) Bool.false_ne_true) t.val t rfl d,
    if_neg (by rw [notFresh0_7 t h]; exact Bool.false_ne_true)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [show cfg0.idle 0 (grid0.coords t) = false from rfl], after0_0]
  rw [show (dat0 V c).leavesExact 1 t = owns (c : Thread nD τ) (ms0_1 t) fullShare ((dat0 V c).after 1 t) from by
    unfold Dat.leavesExact; rw [show cfg0.idle 1 (grid0.coords t) = false from rfl], after0_1]
  rw [show (dat0 V c).leavesExact 2 t = owns (c : Thread nD τ) (ms0_2 t) fullShare ((dat0 V c).after 2 t) from by
    unfold Dat.leavesExact; rw [show cfg0.idle 2 (grid0.coords t) = false from rfl], after0_2]
  rw [show (dat0 V c).leavesExact 3 t = owns (c : Thread nD τ) (ms0_3 t) fullShare ((dat0 V c).after 3 t) from by
    unfold Dat.leavesExact; rw [show cfg0.idle 3 (grid0.coords t) = false from rfl], after0_3]
  rw [show (dat0 V c).leavesExact 4 t = owns (c : Thread nD τ) (ms0_4 t) fullShare ((dat0 V c).after 4 t) from by
    unfold Dat.leavesExact; rw [show cfg0.idle 4 (grid0.coords t) = false from rfl], after0_4]
  rw [show (dat0 V c).leavesExact 5 t = owns (c : Thread nD τ) (ms0_5 t) fullShare ((dat0 V c).after 5 t) from by
    unfold Dat.leavesExact; rw [show cfg0.idle 5 (grid0.coords t) = false from rfl], after0_5]
  rw [show (dat0 V c).leavesExact 6 t = owns (c : Thread nD τ) (ms0_6 t) fullShare ((dat0 V c).after 6 t) from by
    unfold Dat.leavesExact; rw [show cfg0.idle 6 (grid0.coords t) = false from rfl], after0_6]
  rw [show (dat0 V c).leavesExact 7 t = owns (c : Thread nD τ) (ms0_7 t) fullShare ((dat0 V c).after 7 t) from by
    unfold Dat.leavesExact; rw [show cfg0.idle 7 (grid0.coords t) = false from live0_7 t], after0_7]
  rw [show (dat0 V c).leavesExact 8 t = owns (c : Thread nD τ) (ms0_8 t) fullShare ((dat0 V c).after 8 t) from by
    unfold Dat.leavesExact; rw [show cfg0.idle 8 (grid0.coords t) = false from rfl], after0_8]
  rcases Nat.eq_zero_or_pos t.val with h | h
  · rw [outsAt0_A V c t h]
    unfold outs0_A; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_A V c t h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 V c t h)
    isplitl [H7]
    · unfold owns; iexists _; isplitr
      swap; · iexact H7
      ipureintro; exact View.read_writes_of_cover _ _ _ _ _ (cover0_A_7 V c t h)
    unfold owns; iexists _; isplitr
    swap; · iexact H8
    ipureintro; exact View.read_writes_of_cover _ _ _ _ _ (cover0_A_8 V c t h)
  · rw [outsAt0_B V c t h]
    simp only [before0_7_B V c t h]
    unfold outs0_B; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_B V c t h _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 V c t h _)
    isplitl [H7]
    · unfold owns; iexists _; isplitr
      swap; · iexact H7
      ipureintro; exact View.read_writes_of_cover _ _ _ _ _ (cover0_B_7 V c t h _)
    unfold owns; iexists _; isplitr
    swap; · iexact H8
    ipureintro; exact View.read_writes_of_cover _ _ _ _ _ (cover0_B_8 V c t h _)

/-- The body table's row at point `t` is the body. -/
theorem defs₀_row0 (t : Fin cfg0.N) :
    defs₀ (F := F) .tc cfg0.body (cfg0.bodyArgs t (cfg0.slots t)) = bodyAt0 t := by
  unfold defs₀; rw [Defs.onTc_tc]

/-- The body's obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.Hand

end
-- ==== Proof.Region1Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call's body: the two runs of its kernel

The first point fills the scratch with the scaled features; every later point reads it. -/

/-- The kernel's conditional is taken. -/
abbrev cond1_0 (i : grid1.Coords) : Prop := (Scalar.cmpi .ne (Scalar.extui (Scalar.cmpi .eq (BitVec.ofNat 32 (i 0).val) 0#32)) 0#32) = 1#1

/-- It is taken at the first point only. -/
theorem hcond1_0 : ∀ t : Fin cfg1.N, cond1_0 (grid1.coords t) ↔ t.val = 0 :=
  (fun t => by
    have ht : t.val < 4 := Nat.lt_of_lt_of_eq t.isLt N_1
    have e0 : (grid1.coords t 0).val = t.val / 1 % 4 := Pipeline.Grid.coords_val t 0 (by decide) rfl
    simp only [cond1_0, e0]
    word_cmp
   : ∀ t : Fin grid1.N, cond1_0 (grid1.coords t) ↔ t.val = 0)

section Runs
variable (c : Dev nD) (i : grid1.Coords)
  (arg1 : Memref sig .tc .vmem S4096x1 .f32) (harg1 : arg1.IsWhole)
  (arg2 : Memref sig .tc .vmem S1024x1 .f32) (harg2 : arg2.IsWhole)
  (arg3 : Memref sig .tc .vmem S1x128 .f32) (harg3 : arg3.IsWhole)
  (arg4 : Memref sig .tc .vmem S4096x1024 .bf16) (harg4 : arg4.IsWhole)
  (arg5 : Memref sig .tc .vmem S4096x1024 .bf16) (harg5 : arg5.IsWhole)
  (arg6 : Memref sig .tc .vmem S8x1024x128 .f32) (harg6 : arg6.IsWhole)
  (arg7 : Memref sig .tc .vmem S4096x1024 .bf16) (harg7 : arg7.IsWhole)

set_option maxHeartbeats 1000000 in
/-- The body at the first point, on whole buffers: the inputs keep their contents, and the output and the scratch end with the pieces the run finds written over what they held. -/
noncomputable def kernelRun1_A (hc0 : cond1_0 i)
    (x0 : Vec F S4096x1 .f32) (x1 : Vec F S1024x1 .f32) (x2 : Vec F S1x128 .f32) (x3 x4 : Vec F S4096x1024 .bf16) :
    Σ' (L5 : List (View.Piece (Elt F) S8x1024x128 .f32)), { LS0 : List (View.Piece (Elt F) S4096x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg1 harg1 arg2 harg2 arg3 harg3 arg4 harg4 arg5 harg5 arg6 harg6 arg7 harg7) K } := by
  refine ⟨?_, ?_, fun E K => ?run⟩
  case run =>
    simp only [cc1__matmul_kernel_eq_skeleton]; unfold cc1__matmul_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 1000000 in
/-- The body at a later point: the scratch is read at `xs0` and kept. -/
noncomputable def kernelRun1_B (hc0 : ¬cond1_0 i)
    (x0 : Vec F S4096x1 .f32) (x1 : Vec F S1024x1 .f32) (x2 : Vec F S1x128 .f32) (x3 x4 : Vec F S4096x1024 .bf16) (xs0 : Vec F S4096x1024 .bf16) :
    { L5 : List (View.Piece (Elt F) S8x1024x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc1__matmul_kernel i arg1 harg1 arg2 harg2 arg3 harg3 arg4 harg4 arg5 harg5 arg6 harg6 arg7 harg7) K } := by
  refine ⟨?_, fun E K => ?run⟩
  case run =>
    simp only [cc1__matmul_kernel_eq_skeleton]; unfold cc1__matmul_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Runs

end Cert.Hand

end
-- ==== Proof.Region1.lean ====
module

public import proofs.«01_k».proof.Proof.Region1Run

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: what it leaves, and its body's obligation

Everything is stated over the buffer contents `V` the call is entered with. The scratch is carried from point to
point: the invariant names what it holds. -/

section Region
variable (V : (c : Dev nD) → (b : Ref sig .tc) → Buf (Elt F) ((c : Thread nD τ).loc b))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One buffer of the output, through which its contents are stated (the choice does not matter). -/
abbrev VO1_5 : View sig .tc .vmem S8x1024x128 .f32 := (Memref.whole cc1_stg5_0 : Memref sig .tc .vmem S8x1024x128 .f32).view
/-- The scratch, and its view. -/
abbrev scM1_0 : Memref sig .tc .vmem S4096x1024 .bf16 := Memref.whole cc1_scratch0
abbrev VS1_0 : View sig .tc .vmem S4096x1024 .bf16 := scM1_0.view

/-! Each window's current buffer at point `t`, and that it is whole. -/
abbrev ms1_0 (t : Fin cfg1.N) : Memref sig .tc .vmem S4096x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1024x128 .f32 := win1_5.stage (cfg1.slots t 5)
abbrev hs1_5 (t : Fin cfg1.N) : (ms1_5 t).IsWhole := hstage1_5 ((cfg1.slots t 5).cast nbuf1_5)

/-- The first point's run at the point's own buffers and input blocks. -/
def run1_A (c : Dev nD) (t : Fin cfg1.N) (h : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    ((hcond1_0 t).mpr h)
    (iblk1 V c 0 t) (iblk1 V c 1 t) (iblk1 V c 2 t) (iblk1 V c 3 t) (iblk1 V c 4 t)

/-- A later point's. -/
def run1_B (c : Dev nD) (t : Fin cfg1.N) (h : t.val ≠ 0) (xs0 : Vec F S4096x1024 .bf16) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _)
    (fun h0 => h ((hcond1_0 t).mp h0))
    (iblk1 V c 0 t) (iblk1 V c 1 t) (iblk1 V c 2 t) (iblk1 V c 3 t) (iblk1 V c 4 t) xs0

/-- What the first point leaves in the output's buffer and in the scratch. -/
def outs1_A (c : Dev nD) (t : Fin cfg1.N) (h : t.val = 0) : Vec F S8x1024x128 .f32 × Vec F S4096x1024 .bf16 :=
  (VO1_5.read (Elt F) (VO1_5.writes (Elt F) VO1_5.junk (run1_A V c t h).1),
   VS1_0.read (Elt F) (VS1_0.writes (Elt F) VS1_0.junk (run1_A V c t h).2.1))

/-- What a later point leaves. -/
def outs1_B (c : Dev nD) (t : Fin cfg1.N) (h : t.val ≠ 0) (xs0 : Vec F S4096x1024 .bf16) : Vec F S8x1024x128 .f32 × Vec F S4096x1024 .bf16 :=
  (VO1_5.read (Elt F) (VO1_5.writes (Elt F) VO1_5.junk (run1_B V c t h xs0).1), xs0)

theorem cover1_A (c : Dev nD) (t : Fin cfg1.N) (h : t.val = 0) (y : S8x1024x128.Idx) :
    ∃ pc ∈ (run1_A V c t h).1, y ∈ pc.1.set :=
  View.cover_of_tiledL (run1_A V c t h).1 S1x1024x128.size (by sl_kernel_rfl) y

theorem cover1_B (c : Dev nD) (t : Fin cfg1.N) (h : t.val ≠ 0) (xs0 : Vec F S4096x1024 .bf16) (y : S8x1024x128.Idx) :
    ∃ pc ∈ (run1_B V c t h xs0).1, y ∈ pc.1.set :=
  View.cover_of_tiledL (run1_B V c t h xs0).1 S1x1024x128.size (by sl_kernel_rfl) y

theorem scover1_A (c : Dev nD) (t : Fin cfg1.N) (h : t.val = 0) (y : S4096x1024.Idx) :
    ∃ pc ∈ (run1_A V c t h).2.1, y ∈ pc.1.set :=
  View.cover_of_tiledL (run1_A V c t h).2.1 S4096x1024.size (by sl_kernel_rfl) y

/-- What the output's buffer and the scratch hold after point `n`. -/
def outsAt1 (c : Dev nD) : (n : ℕ) → n < cfg1.N → Vec F S8x1024x128 .f32 × Vec F S4096x1024 .bf16
  | 0, hn => outs1_A V c ⟨0, hn⟩ rfl
  | n + 1, hn => outs1_B V c ⟨n + 1, hn⟩ (Nat.succ_ne_zero n) (outsAt1 c n (Nat.lt_of_succ_lt hn)).2

theorem outsAt1_A (c : Dev nD) (t : Fin cfg1.N) (h : t.val = 0) : outsAt1 V c t.val t.isLt = outs1_A V c t h := by
  obtain ⟨n, hn⟩ := t
  cases n with
  | zero => rfl
  | succ n => exact absurd h (Nat.succ_ne_zero n)

theorem outsAt1_B (c : Dev nD) (t : Fin cfg1.N) (h : t.val ≠ 0) :
    outsAt1 V c t.val t.isLt
      = outs1_B V c t h (outsAt1 V c (t.val - 1) (Nat.lt_of_le_of_lt (Nat.sub_le _ _) t.isLt)).2 := by
  obtain ⟨n, hn⟩ := t
  cases n with
  | zero => exact absurd rfl h
  | succ n => rfl

/-- A buffer of the core's, whole, at some contents. -/
def anyBuf (c : Dev nD) (b : Ref sig .tc) : sProp 𝕄 :=
  iprop(∃ f : Buf (Elt F) ((c : Thread nD τ).loc b), ((c : Thread nD τ).loc b) ↦{fullShare} f)

/-- The first call's staging buffers, which the second call leaves alone. -/
def rest1 (c : Dev nD) : sProp 𝕄 :=
  iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc0_stg5_0 ∗ anyBuf (F := F) c cc0_stg6_0 ∗ anyBuf (F := F) c cc0_stg6_1 ∗ anyBuf (F := F) c cc0_stg7_0 ∗ anyBuf (F := F) c cc0_stg8_0 ∗ anyBuf (F := F) c cc0_stg8_1)

/-- The invariant before position `n`: the rest of the scoped buffers, the scratch — at anything before the first
point, then at what the point before left — and the generator register. -/
def PhiS (c : Dev nD) : (n : ℕ) → n ≤ cfg1.N → sProp 𝕄
  | 0, _ => iprop(rest1 (F := F) c ∗ (∃ d, owns (c : Thread nD τ) scM1_0 fullShare d) ∗ (∃ r, prngReg c r))
  | n + 1, hn => iprop(rest1 (F := F) c ∗ owns (c : Thread nD τ) scM1_0 fullShare ((outsAt1 V c n hn).2) ∗ (∃ r, prngReg c r))

theorem PhiS_zero (c : Dev nD) (n : ℕ) (h : n ≤ cfg1.N) (hz : n = 0) :
    PhiS V c n h = iprop(rest1 (F := F) c ∗ (∃ d, owns (c : Thread nD τ) scM1_0 fullShare d) ∗ (∃ r, prngReg c r)) := by
  subst hz; rfl

theorem PhiS_succ (c : Dev nD) (n : ℕ) (hn : n < cfg1.N) :
    PhiS V c (n + 1) hn = iprop(rest1 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-- The second call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-! An input's current buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5]
  rw [show (dat1 V c).Φ t.succ = PhiS V c (t.val + 1) t.isLt from rfl, PhiS_succ, PhiS_castSucc V c t]
  by_cases h : t.val = 0
  · rw [PhiS_zero V c _ _ h, outsAt1_A V c t h]
    unfold outs1_A; dsimp only
    iintro ⟨⟨HR, HS0, Hg⟩, Ho, ⟨%d0, H0⟩, ⟨%d1, H1⟩, ⟨%d2, H2⟩, ⟨%d3, H3⟩, ⟨%d4, H4⟩, ⟨%d5, H5⟩⟩
    iapply ((run1_A V c t h).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HR HS0 Hg]
    · isplitl [HR]; · iexact HR
      isplitl [HS0]
      · unfold owns; iexists _; isplitr
        swap; · iexact HS0
        ipureintro; exact View.read_writes_of_cover _ _ _ _ _ (scover1_A V c t h)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A V c t h)
  · rw [PhiS_pos V c _ _ h, outsAt1_B V c t h]
    unfold outs1_B; dsimp only
    iintro ⟨⟨HR, HS0, Hg⟩, Ho, ⟨%d0, H0⟩, ⟨%d1, H1⟩, ⟨%d2, H2⟩, ⟨%d3, H3⟩, ⟨%d4, H4⟩, ⟨%d5, H5⟩⟩
    iapply ((run1_B V c t h _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HR HS0 Hg]
    · isplitl [HR]; · iexact HR
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B V c t h _)

/-- The body table's row at point `t` is the body. -/
theorem defs₀_row1 (t : Fin cfg1.N) :
    defs₀ (F := F) .tc cfg1.body (cfg1.bodyArgs t (cfg1.slots t)) = bodyAt1 t := by
  unfold defs₀; rw [Defs.onTc_tc]

/-- The body's obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The scoped buffers outside the second call's staging, and the generator register. -/
theorem PhiA1_eq (c : Dev nD) :
    (Pipeline.ΦA spec1 c : sProp 𝕄)
      = iprop(iprop(anyBuf (F := F) c cc0_stg0_0 ∗ anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc0_stg5_0 ∗ anyBuf (F := F) c cc0_stg6_0 ∗ anyBuf (F := F) c cc0_stg6_1 ∗ anyBuf (F := F) c cc0_stg7_0 ∗ anyBuf (F := F) c cc0_stg8_0 ∗ anyBuf (F := F) c cc0_stg8_1 ∗ (∃ d, owns (c : Thread nD τ) scM1_0 fullShare d)) ∗ (∃ r, prngReg c r)) := by
  unfold Pipeline.ΦA; rw [scopedRest1_eq]; simp only [scM1_0, owns_whole]; rfl

/-- The call is entered with the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl, PhiA1_eq]
  unfold rest1
  iintro ⟨⟨HR0, HR1, HR2, HR3, HR4, HR5, HR6, HR7, HR8, HR9, HR10, HR11, HR12, HR13, HR14, HS0⟩, Hg⟩
  isplitl [HR0 HR1 HR2 HR3 HR4 HR5 HR6 HR7 HR8 HR9 HR10 HR11 HR12 HR13 HR14]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact HR14
  isplitl [HS0]; · iexact HS0
  iexact Hg

/-- After the last point the invariant gives those buffers back, the scratch's contents forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 4 := N_1; omega), PhiA1_eq]
  unfold rest1
  iintro ⟨⟨HR0, HR1, HR2, HR3, HR4, HR5, HR6, HR7, HR8, HR9, HR10, HR11, HR12, HR13, HR14⟩, HS0, Hg⟩
  isplitl [HR0 HR1 HR2 HR3 HR4 HR5 HR6 HR7 HR8 HR9 HR10 HR11 HR12 HR13 HR14 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexists _; iexact HS0
  iexact Hg

end Region

end Cert.Hand

end
-- ==== Proof.Run.lean ====
module

public import proofs.«01_k».proof.Proof.Region0
public import proofs.«01_k».proof.Proof.Region1
public import Idealize.ShloMosaic.Lib.Pipeline.RegionsLoop
public import Idealize.ShloMosaic.Lib.Pipeline.FrameSuffix

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

The contents of every array at each boundary between the host operations and the two calls, and the run from the launch to
the return. -/

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6]

/-- The host operations before the first call allocate nothing, -/
theorem hostOps0_fresh : (hostOps0 : List (HloOp τ sig (Elt F))).Forall fun op => op.fresh = ∅ := by
  simp only [List.Forall]; repeat' constructor
/-- and write this array. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- It is none of the arguments. -/
theorem hostOps0_args : ∀ a ∈ argRefs, a ∉ hostOps0_W := ListAll.forall_mem_of_all_decide (by decide +kernel)

/-- The host operations between the calls allocate nothing, -/
theorem hostOps1_fresh : (hostOps1 : List (HloOp τ sig (Elt F))).Forall fun op => op.fresh = ∅ := by
  simp only [List.Forall]; repeat' constructor
/-- and write these arrays. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- They are none of the arguments. -/
theorem hostOps1_args : ∀ a ∈ argRefs, a ∉ hostOps1_W := ListAll.forall_mem_of_all_decide (by decide +kernel)

/-- The buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- after the first host operation, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the first call, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array the first call does not write keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is written by the first call, -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the host operations between the calls, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- and after the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An array the second call does not write keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- nor by the second. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-- Neither call has a prefetched table. -/
abbrev adm : (p : Fin 2) → (pcfgs (F := F) p).Adm := fun p => (cfgs p).toPCfg_adm
/-- Both calls' proof data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What is carried beside the buffers: the generator register and the empty debt. -/
abbrev R (c : Dev nD) : sProp 𝕄 := iprop((∃ r, prngReg c r) ∗ ∃ W, owes (c : Thread nD τ) (0 : CellTallies nD τ sig Unit) W)
/-- A stretch of host operations as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped array is among those the run reports on. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the run ends with. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a segment, from the contents `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment, from `W3` to `W4`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none]
    rw [show (pdats m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: it ends, the result array holds what the second call leaves, the arguments are as launched, and every counter is zero. -/
theorem run : θ_run defs (onTc (τ := τ) (main (F := F))) ⟨m, fun _ => 0, ρ⟩ (fun r => (∀ c : Dev nD,
      r.2.mem ((c.tc : Thread nD τ).loc main_v4) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v4 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.Hand

end
-- ==== Proof.Transfer.lean ====
module

public import proofs.«01_k».proof.Defs
public import proofs.«01_k».proof.Proof.Run
public import proofs.«01_k».proof.Proof.Gen.Kernel.Launch

@[expose] public section

set_option maxRecDepth 16384

namespace Cert.Hand

open Idealize.ShloMosaic Idealize.ShloMosaic.TcCoe Idealize.SL.Sem

/-! # The kernel and its idealized form are one program -/

variable {F : FTy → Type} [FloatOps F]

theorem main_same : (Cert.Kernel.main (F := F)) = (Cert.KernelIdeal.main (F := F)) := rfl

theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl

theorem defs_same : (Cert.Kernel.defs (F := F)) = (Cert.KernelIdeal.defs (F := F)) :=
  congrArg (Pipeline.defs Cert.KernelIdeal.pcfgs) bodies_same

/-- The kernel, on bits, runs to the end, leaves its arguments and returns its counters to zero. -/
theorem quiescent_kernel : Cert.quiescent_Kernel := by
  intro m g _
  have h := run (F := Bits) m g
  rw [← main_same, ← defs_same] at h
  exact (θ_run _ _ _).mono (fun _ r => ⟨fun c => (r.1 c).2, r.2⟩) h

/-- So does its idealized form, on extended reals. -/
theorem quiescent_kernelIdeal : Cert.quiescent_KernelIdeal := by
  intro m g _
  exact (θ_run _ _ _).mono (fun _ r => ⟨fun c => (r.1 c).2, r.2⟩) (run (F := Ideal) m g)

theorem quiescent_kernelIdeal_pre [Cert.Pre_degrees_positive.Facts] : Cert.quiescent_KernelIdeal_pre_degrees_positive := by
  intro m g _
  exact (θ_run _ _ _).mono (fun _ r => ⟨fun c => (r.1 c).2, r.2⟩) (run (F := Ideal) m g)

end Cert.Hand
-- ==== Proof.RefFrame.lean ====
module

public import proofs.«01_k».proof.Defs
public import proofs.«01_k».proof.Proof.Gen.ReferenceIdeal.Run
public import Idealize.ShloMosaic.Lib.Quiescent

@[expose] public section

namespace Cert.Hand

open Cert.ReferenceIdeal Idealize.ShloMosaic Idealize.ShloMosaic.TcCoe Idealize.SL.Sem

/-- The reference runs to the end, leaves its arguments and returns its counters to zero. -/
theorem quiescent_reference : Cert.quiescent_ReferenceIdeal := by
  intro m g _
  exact (θ_run _ _ _).mono (fun r h => ⟨fun c => (h c).2, sem_eq_zero_of_no_sems (by decide) r.2⟩)
    (Cert.ReferenceIdeal.Value.run m g)

theorem quiescent_reference_pre [Cert.Pre_degrees_positive.Facts] : Cert.quiescent_ReferenceIdeal_pre_degrees_positive := by
  intro m g _
  exact (θ_run _ _ _).mono (fun r h => ⟨fun c => (h c).2, sem_eq_zero_of_no_sems (by decide) r.2⟩)
    (Cert.ReferenceIdeal.Value.run m g)

end Cert.Hand
-- ==== Proof.Spec.lean ====
module

public import Idealize.ShloMosaic.Lib.Pointwise
public import Idealize.ShloMosaic.Lib.IdealHost
public import proofs.«01_k».proof.Proof.Gen.ReferenceIdeal

@[expose] public section

set_option maxRecDepth 16384

noncomputable section

namespace Cert.Hand

open Cert.ReferenceIdeal Idealize.ShloMosaic

/-! # What the program computes, entry by entry over the extended reals -/

/-- The greatest of the three logits. -/
def top (al : FVec Ideal S3 .f32) : EReal := Finset.univ.fold max (⊥ : EReal) fun k : Fin 3 => al (ix1 k)

/-- The softmax weight of adjacency matrix `k`. -/
def wt (al : FVec Ideal S3 .f32) (k : Fin 3) : EReal :=
  Ideal.div (Ideal.exp (al (ix1 k) - top al)) (∑ k' : Fin 3, Ideal.exp (al (ix1 k') - top al))

/-- The weighted adjacency of `i` and `j`. -/
def mix (a1 a2 a3 : FVec Ideal S4096x4096 .f32) (al : FVec Ideal S3 .f32) (i j : Fin 4096) : EReal :=
  wt al 0 * a1 (ix2 i j) + wt al 1 * a2 (ix2 i j) + wt al 2 * a3 (ix2 i j)

/-- The same with the self loop. -/
def hat (a1 a2 a3 : FVec Ideal S4096x4096 .f32) (al : FVec Ideal S3 .f32) (i j : Fin 4096) : EReal :=
  mix a1 a2 a3 al i j + (if i = j then 1 else 0)

/-- Node `j`'s degree. -/
def dg (a1 a2 a3 : FVec Ideal S4096x4096 .f32) (al : FVec Ideal S3 .f32) (j : Fin 4096) : EReal :=
  ∑ i : Fin 4096, hat a1 a2 a3 al i j

/-- The transformed features. -/
def lin (f : FVec Ideal S8x4096x128 .f32) (w : FVec Ideal S128x128 .f32) (b : Fin 8) (i : Fin 4096) (k : Fin 128) : EReal :=
  ∑ h : Fin 128, f (ix3 b i h) * w (ix2 h k)

/-- The word for minus infinity. -/
theorem bits_bot : Ideal.ofBits .f32 0xFF800000#32 = ⊥ := by simp [Ideal.ofBits, Ideal.ieee]

/-- A set bit and a clear bit as numbers. -/
theorem bit_one : FloatOps.uitofp (F := Ideal) .f32 (BitVec.ofBool true) = (1 : EReal) := by
  show (((BitVec.ofBool true).toNat : ℝ) : EReal) = 1
  simp
theorem bit_zero : FloatOps.uitofp (F := Ideal) .f32 (BitVec.ofBool false) = (0 : EReal) := by
  show (((BitVec.ofBool false).toNat : ℝ) : EReal) = 0
  simp

/-- The degree is the weighted adjacency's column sum plus one. -/
theorem dg_eq (a1 a2 a3 : FVec Ideal S4096x4096 .f32) (al : FVec Ideal S3 .f32) (j : Fin 4096) :
    dg a1 a2 a3 al j = (∑ i : Fin 4096, mix a1 a2 a3 al i j) + 1 := by
  unfold dg hat
  rw [Finset.sum_add_distrib, Finset.sum_ite_eq' Finset.univ j fun _ => (1 : EReal), if_pos (Finset.mem_univ j)]

/-- The reciprocal root of a positive number, as the reference writes it. -/
theorem div_one_sqrt {x : EReal} (h : 0 < x) : Ideal.div 1 (Ideal.sqrt x) = Ideal.rsqrt x := by
  induction x using EReal.rec with
  | bot => exact absurd h (by simp)
  | top => simp [Ideal.div]
  | coe r =>
    have hr : 0 < r := by exact_mod_cast h
    have hs : (0 : ℝ) < Real.sqrt r := Real.sqrt_pos.mpr hr
    rw [Ideal.sqrt_coe, Ideal.rsqrt_coe, if_neg hr.not_gt, if_neg hr.not_gt, if_neg hr.ne', Ideal.div,
      if_neg (by exact_mod_cast hs.ne'), one_mul, EReal.coe_inv]

/-- It is a nonnegative real. -/
theorem rsqrt_real {x : EReal} (h : 0 < x) : 0 ≤ Ideal.rsqrt x ∧ Ideal.rsqrt x ≠ ⊤ := by
  induction x using EReal.rec with
  | bot => exact absurd h (by simp)
  | top => simp
  | coe r =>
    have hr : 0 < r := by exact_mod_cast h
    rw [Ideal.rsqrt_coe, if_neg hr.not_gt, if_neg hr.ne']
    exact ⟨by exact_mod_cast inv_nonneg.mpr (Real.sqrt_nonneg r), EReal.coe_ne_top _⟩

/-- A nonnegative real goes into a sum of extended reals. -/
theorem mul_sum_real {ι : Type} {x : EReal} (h0 : 0 ≤ x) (ht : x ≠ ⊤) (s : Finset ι) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

/-- The scaling of the rows and of the column of one product: taken out of the sum or left in it. -/
theorem scaled_sum (d : Fin 4096 → EReal) (a x : Fin 4096 → EReal) (y : EReal) (h0 : 0 ≤ y) (ht : y ≠ ⊤) :
    y * ∑ i, a i * (d i * x i) = ∑ i, x i * ((d i * a i) * y) := by
  rw [mul_sum_real h0 ht]
  exact Finset.sum_congr rfl fun i _ => by
    rw [mul_comm (x i), mul_assoc (d i * a i), mul_comm y (x i), ← mul_assoc _ (x i) y, mul_comm y, mul_assoc (d i) (a i),
      mul_left_comm (a i) (d i) (x i), ← mul_assoc (d i)]

end Cert.Hand

end
-- ==== Proof.Pay.lean ====
module

public import proofs.«01_k».proof.Proof.Spec
public import proofs.«01_k».proof.Proof.Gen.KernelIdeal.Skeleton
public import Idealize.ShloMosaic.Lib.Pointwise
public import Idealize.ShloMosaic.Lib.WordCmp
public import Idealize.ShloMosaic.Lib.KernelVsHost

@[expose] public section

set_option maxRecDepth 16384

noncomputable section

namespace Cert.Hand.Pay

open Cert.KernelIdeal Cert.KernelIdeal.Gen
open Idealize.ShloMosaic Idealize.ShloMosaic.TcCoe

/-! # What the two bodies store, entry by entry over the extended reals -/

/-- The row of logits as a vector. -/
def row (x : FVec Ideal S1x3 .f32) : FVec Ideal Cert.ReferenceIdeal.S3 .f32 := fun k => x (ix2 0 (k 0))

/-- The weighted sum of the three adjacency blocks. -/
theorem mix_apply (x : FVec Ideal S1x3 .f32) (a b c : FVec Ideal S256x4096 .f32) (r : Fin 256) (l : Fin 4096) :
    k0_pay6 (F := Ideal) x a b c (ix2 r l) = wt (row x) 0 * a (ix2 r l) + wt (row x) 1 * b (ix2 r l) + wt (row x) 2 * c (ix2 r l) := by
  pointwise [k0_pay6]
  rfl

/-- Its column sums. -/
theorem sum_apply (x : FVec Ideal S1x3 .f32) (a b c : FVec Ideal S256x4096 .f32) (l : Fin 4096) :
    k0_pay7 (F := Ideal) x a b c (ix2 0 l) = ∑ r : Fin 256, k0_pay6 (F := Ideal) x a b c (ix2 r l) := by
  pointwise [k0_pay7]

/-- The column sums added to those already there. -/
theorem acc_apply (x : FVec Ideal S1x3 .f32) (a b c : FVec Ideal S256x4096 .f32) (y : FVec Ideal S1x4096 .f32) (l : Fin 4096) :
    k0_pay8 (F := Ideal) x a b c y (ix2 0 l) = y (ix2 0 l) + k0_pay7 (F := Ideal) x a b c (ix2 0 l) := by
  pointwise [k0_pay8]

/-- The weighted sum, stored. -/
theorem store_apply (x : FVec Ideal S1x3 .f32) (a b c : FVec Ideal S256x4096 .f32) (r : Fin 256) (l : Fin 4096) :
    k0_pay9 (F := Ideal) x a b c (ix2 r l) = k0_pay6 (F := Ideal) x a b c (ix2 r l) := by
  pointwise [k0_pay9]

/-- A set bit and a clear bit, widened to a word, as numbers. -/
theorem word_one : FloatOps.sitofp (F := Ideal) .f32 ((BitVec.ofBool true).setWidth 32) = (1 : EReal) := by
  show ((((BitVec.ofBool true).setWidth 32).toInt : ℝ) : EReal) = 1
  simp
theorem word_zero : FloatOps.sitofp (F := Ideal) .f32 ((BitVec.ofBool false).setWidth 32) = (0 : EReal) := by
  show ((((BitVec.ofBool false).setWidth 32).toInt : ℝ) : EReal) = 0
  simp

/-- The square on the diagonal with one added along its diagonal. -/
theorem diag_apply (v : FVec Ideal S256x256 .bf16) (r l : Fin 256) :
    k0_pay11 (F := Ideal) k0_pay10 v (ix2 r l) = v (ix2 r l) + (if r = l then (1 : EReal) else 0) := by
  pointwise [k0_pay11, k0_pay10]
  rw [WordCmp.cmpi_eq_ofNat (lt_trans r.isLt (by decide)) (lt_trans l.isLt (by decide))]
  refine congrArg (v (ix2 r l) + ·) ?_
  by_cases h : r = l
  · rw [if_pos h, decide_eq_true (congrArg Fin.val h)]
    exact word_one
  · rw [if_neg h, decide_eq_false fun h' => h (Fin.ext h')]
    exact word_zero

/-- The product of one sample's feature block with the weights. -/
theorem lin_apply (w : FVec Ideal S128x128 .f32) (f : FVec Ideal S1x256x128 .f32) (r : Fin 256) (k : Fin 128) :
    k0_pay12 (F := Ideal) w f (ix2 r k) = ∑ h : Fin 128, f (ix3 0 r h) * w (ix2 h k) := by
  pointwise [k0_pay12]

/-- The scaled features the second body keeps: each row over the root of its degree plus one. -/
theorem scaled_apply (g : FVec Ideal S4096x1 .f32) (x : FVec Ideal S4096x1024 .bf16) (i : Fin 4096) (q : Fin 1024) :
    k1_pay2 (F := Ideal) g x (ix2 i q) = Ideal.rsqrt (g (ix2 i 0) + 1) * x (ix2 i q) := by
  pointwise [k1_pay2]

/-- The product of the combined adjacency, transposed, with the scaled features. -/
theorem prod_apply (h x : FVec Ideal S4096x1024 .bf16) (r q : Fin 1024) :
    k1_pay5 (F := Ideal) h x (ix2 r q) = ∑ i : Fin 4096, h (ix2 i r) * x (ix2 i q) := by
  pointwise [k1_pay5]

/-- One sample's tile of the product, scaled by row and with the bias added. -/
def tile (o : Nat) (hs : Shape.Slices S1024x1024 ![0, o] S1024x128) (g : FVec Ideal S1024x1 .f32) (y : FVec Ideal S1x128 .f32)
    (p : FVec Ideal S1024x1024 .f32) : FVec Ideal S1x1024x128 .f32 :=
  shapeCast S1x1024x128 (addf (mulf (broadcastTo S1024x128 (k1_pay3 (F := Ideal) g) broadcasts_S1024x1_S1024x128)
    (extractStridedSlice S1024x128 ![0, o] p hs)) (broadcastTo S1024x128 (k1_pay4 (F := Ideal) y) broadcasts_S1x128_S1024x128))
    shapeCasts_S1024x128_S1x1024x128

theorem tile_apply (o : Nat) (hs) (g : FVec Ideal S1024x1 .f32) (y : FVec Ideal S1x128 .f32) (p : FVec Ideal S1024x1024 .f32)
    (r : Fin 1024) (k : Fin 128) (q : Fin 1024) (hq : q.val = o + k.val) :
    tile o hs g y p (ix3 0 r k) = Ideal.rsqrt (g (ix2 r 0) + 1) * p (ix2 r q) + y (ix2 0 k) := by
  obtain ⟨n, hn⟩ := q
  obtain rfl : n = o + k.val := hq
  pointwise [tile, k1_pay3, k1_pay4]

end Cert.Hand.Pay
-- ==== Proof.Value0.lean ====
module

public import proofs.«01_k».proof.Proof.Run
public import proofs.«01_k».proof.Proof.Pay
public import Idealize.ShloMosaic.Lib.Pipeline.ValueKit

@[expose] public section

set_option maxRecDepth 16384

noncomputable section

namespace Cert.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable (V : (c : Dev nD) → (b : Ref sig .tc) → Buf (Elt Ideal) ((c : Thread nD τ).loc b))

/-! # What the first call leaves in its three arrays -/

/-- A block stored whole, with the square on its diagonal then read back and stored with one along its diagonal. -/
theorem comb_canon (i : grid0.Coords) (X : FVec Ideal S256x4096 .bf16) (r : Fin 256) (l : Fin 4096) :
    View.canon (Val := Elt Ideal) (s := S256x4096) (e := .bf16)
      [⟨Rect.unit (s := S256x4096) (k0_off1 i) S256x256.size (k0_off1_inb i),
          k0_pay11 (F := Ideal) k0_pay10 (View.ld (Val := Elt Ideal) X (Rect.unit (s := S256x4096) (k0_off1 i) S256x256.size (k0_off1_inb i)))⟩,
        ⟨Rect.unit (s := S256x4096) ![0, 0] S256x4096.size inb_S256x4096_S256x4096_0_0, X⟩] (ix2 r l)
      = X (ix2 r l) + (if 256 * (i 0).val + r.val = l.val then (1 : EReal) else 0) := by
  have e1 : k0_off1 i 1 = 256 * (i 0).val := congrFun (k0_off1_eq i) 1
  have e0 : k0_off1 i 0 = 0 := congrFun (k0_off1_eq i) 0
  by_cases h : 256 * (i 0).val ≤ l.val ∧ l.val < 256 * (i 0).val + 256
  · have hy : (ix2 r l : S256x4096.Idx)
        = (Rect.unit (s := S256x4096) (k0_off1 i) S256x256.size (k0_off1_inb i)).emb (ix2 r ⟨l.val - 256 * (i 0).val, by omega⟩) := by
      funext a
      apply Fin.ext
      rw [ValueKit.rect_emb_unit_val]
      match a with
      | ⟨0, _⟩ => show r.val = k0_off1 i 0 + r.val; omega
      | ⟨1, _⟩ => show l.val = k0_off1 i 1 + (l.val - 256 * (i 0).val); omega
    rw [hy, View.canon_cons_emb]
    refine (Pay.diag_apply _ _ _).trans ?_
    rw [← hy]
    refine congrArg₂ (· + ·) (congrArg X ?_) (if_congr ?_ rfl rfl)
    · exact hy.symm
    · rw [Fin.ext_iff]
      show r.val = l.val - 256 * (i 0).val ↔ _
      omega
  · rw [View.canon_cons_of_not_mem, View.canon_cons_unit_lit _ _ _ (by decide), if_neg (by have := r.isLt; omega), add_zero]
    intro hm
    have h2 : k0_off1 i 1 ≤ l.val ∧ l.val < k0_off1 i 1 + 256 :=
      (Rect.mem_set_unit (inb := k0_off1_inb i)).mp hm (1 : Fin 2)
    exact h (by omega)

/-- The weighted sum of the three adjacency blocks of point `t`. -/
def part0 (c : Dev nD) (t : Fin cfg0.N) : FVec Ideal S256x4096 .f32 :=
  k0_pay6 (F := Ideal) (iblk0 V c 0 t) (iblk0 V c 1 t) (iblk0 V c 2 t) (iblk0 V c 3 t)

theorem zero_or (t : Fin cfg0.N) : t.val = 0 ∨ 1 ≤ t.val := by omega

/-- Every point leaves in the combined block the weighted sum with one added along the diagonal of the whole matrix. -/
theorem comb_out (c : Dev nD) (t : Fin cfg0.N) (r : Fin 256) (l : Fin 4096) :
    (outsAt0 V c t.val t.isLt).1 (ix2 r l)
      = part0 V c t (ix2 r l) + (if 256 * (grid0.coords t 0).val + r.val = l.val then (1 : EReal) else 0) := by
  rcases zero_or t with h | h
  · rw [outsAt0_A V c t h]
    unfold outs0_A run0_A kernelRun0_A
    frame_out
    refine (comb_canon _ _ r l).trans ?_
    rw [Pay.store_apply]; rfl
  · rw [outsAt0_B V c t h]
    unfold outs0_B run0_B kernelRun0_B
    frame_out
    refine (comb_canon _ _ r l).trans ?_
    rw [Pay.store_apply]; rfl

/-- The last point leaves in the sums the column sums of all the points' weighted sums. -/
theorem col_out (c : Dev nD) (t : Fin cfg0.N) (ht : t.val + 1 = cfg0.N) (l : Fin 4096) :
    (outsAt0 V c t.val t.isLt).2.1 (ix2 0 l) = ∑ p : Fin cfg0.N, ∑ r : Fin 256, part0 V c p (ix2 r l) := by
  have := Pipeline.eq_sum_fin_of_reset_step_apply_last (fun n h (l : Fin 4096) => ((outsAt0 V c n h).2.1 (ix2 0 l) : EReal)) cfg0.N (fun _ => 0)
    (fun p l => ∑ r : Fin 256, part0 V c p (ix2 r l))
    (fun t h l => by
      have h0 : t.val = 0 := by rwa [Nat.mod_eq_of_lt t.isLt] at h
      show (outsAt0 V c t.val t.isLt).2.1 (ix2 0 l) = _
      rw [outsAt0_A V c t h0]
      unfold outs0_A run0_A kernelRun0_A
      frame_out
      rw [zero_add]
      exact Pay.sum_apply _ _ _ _ l)
    (fun t h l => by
      have h0 : 1 ≤ t.val := by rw [Nat.mod_eq_of_lt t.isLt] at h; omega
      show (outsAt0 V c t.val t.isLt).2.1 (ix2 0 l) = _
      rw [outsAt0_B V c t h0]
      unfold outs0_B run0_B kernelRun0_B
      frame_out
      refine (Pay.acc_apply _ _ _ _ _ l).trans ?_
      rw [Pay.sum_apply]
      rfl)
    le_rfl t ht l
  exact this.trans (zero_add _)

/-- One sample's features times the weights, at an index of the eight products side by side. -/
theorem lin_piece (w : FVec Ideal S128x128 .f32) (f : Vec Ideal S8x256x128 .f32) (b : Nat) (hb : b < 8)
    (inb : ∀ a, (![b, 0, 0] : Fin 3 → Nat) a + S1x256x128.size a ≤ S8x256x128.size a) (x : S256x128.Idx)
    (b' : Fin 8) (r : Fin 256) (k : Fin 128) (h0 : r.val = (x 0).val) (h1 : b'.val * 128 + k.val = b * 128 + (x 1).val) :
    k0_pay12 (F := Ideal) w (View.ld f (Rect.unit (s := S8x256x128) ![b, 0, 0] S1x256x128.size inb)) x
      = ∑ h : Fin 128, (f (ix3 b' r h) : EReal) * w (ix2 h k) := by
  have hx : (x 1).val < 128 := (x 1).isLt
  obtain rfl : b = b'.val := by omega
  have ex : x = ix2 r k := by
    funext a
    match a with
    | ⟨0, _⟩ => exact Fin.ext h0.symm
    | ⟨1, _⟩ => exact Fin.ext (by show (x 1).val = k.val; omega)
  rw [ex, Pay.lin_apply]
  refine Finset.sum_congr rfl fun h _ => congrArg (· * w (ix2 h k)) ?_
  refine View.ld_unit_apply_of _ _ _ _ _ _ fun a => ?_
  match a with
  | ⟨0, _⟩ => rfl
  | ⟨1, _⟩ => show r.val = 0 + r.val; omega
  | ⟨2, _⟩ => show h.val = 0 + h.val; omega

/-- The feature block and the weights of point `t`. -/
def feat0 (c : Dev nD) (t : Fin cfg0.N) : FVec Ideal S8x256x128 .f32 := iblk0 V c 4 t
def wgt0 (c : Dev nD) (t : Fin cfg0.N) : FVec Ideal S128x128 .f32 := iblk0 V c 5 t

/-- Every point leaves in the transformed block the eight samples' products side by side. -/
theorem lin_out (c : Dev nD) (t : Fin cfg0.N) (r : Fin 256) (b : Fin 8) (k : Fin 128) :
    (outsAt0 V c t.val t.isLt).2.2 (ix2 r ⟨b.val * 128 + k.val, by omega⟩)
      = ∑ h : Fin 128, feat0 V c t (ix3 b r h) * wgt0 V c t (ix2 h k) := by
  rcases zero_or t with h | h
  · rw [outsAt0_A V c t h]
    unfold outs0_A run0_A kernelRun0_A
    frame_out
    canon_tiles x hx
    all_goals
      refine lin_piece (wgt0 V c t) (feat0 V c t) _ (by decide) _ x b r k hx0 ?_
      change b.val * 128 + k.val = _ at hx1
      omega
  · rw [outsAt0_B V c t h]
    unfold outs0_B run0_B kernelRun0_B
    frame_out
    canon_tiles x hx
    all_goals
      refine lin_piece (wgt0 V c t) (feat0 V c t) _ (by decide) _ x b r k hx0 ?_
      change b.val * 128 + k.val = _ at hx1
      omega

/-! ## The blocks at coordinates -/

theorem idx0_0 : ∀ t : Fin cfg0.N, win0_0.index t = ![0, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![t.val, 0] := (by decide +kernel : ∀ t : Fin grid0.N, _)
theorem coord0 : ∀ t : Fin cfg0.N, (grid0.coords t 0).val = t.val := (by decide +kernel : ∀ t : Fin grid0.N, _)
theorem lt0 (t : Fin cfg0.N) : t.val < 16 := t.isLt

/-- Row `r` of point `t`'s block, as a row of the array. -/
abbrev row0 (t : Fin cfg0.N) (r : Fin 256) : Fin 4096 := ⟨t.val * 256 + r.val, by have := lt0 t; omega⟩

/-- The logits, the three adjacency matrices, the features and the weights the call is given. -/
def al0 (c : Dev nD) : FVec Ideal Cert.ReferenceIdeal.S3 .f32 := Pay.row (V c main_v0)
def mix0 (c : Dev nD) (i j : Fin 4096) : EReal := mix (V c main_arg1) (V c main_arg2) (V c main_arg3) (al0 V c) i j

/-- A point's weighted sum is its rows of the whole matrix's. -/
theorem part0_apply (c : Dev nD) (t : Fin cfg0.N) (r : Fin 256) (l : Fin 4096) :
    part0 V c t (ix2 r l) = mix0 V c (row0 t r) l := by
  have e0 : (iblk0 V c 0 t : FVec Ideal S1x3 .f32) = V c main_v0 := by
    funext y; blk_ext [iblk0, idx0_0 t]
  have e1 : (iblk0 V c 1 t : FVec Ideal S256x4096 .f32) (ix2 r l) = V c main_arg1 (ix2 (row0 t r) l) := by
    blk_ext [iblk0, idx0_1 t]
  have e2 : (iblk0 V c 2 t : FVec Ideal S256x4096 .f32) (ix2 r l) = V c main_arg2 (ix2 (row0 t r) l) := by
    blk_ext [iblk0, idx0_2 t]
  have e3 : (iblk0 V c 3 t : FVec Ideal S256x4096 .f32) (ix2 r l) = V c main_arg3 (ix2 (row0 t r) l) := by
    blk_ext [iblk0, idx0_3 t]
  unfold part0 mix0 mix al0
  rw [Pay.mix_apply, e1, e2, e3, e0]

theorem feat0_apply (c : Dev nD) (t : Fin cfg0.N) (b : Fin 8) (r : Fin 256) (h : Fin 128) :
    feat0 V c t (ix3 b r h) = V c main_arg0 (ix3 b (row0 t r) h) := by
  blk_ext [feat0, iblk0, idx0_4 t]

theorem wgt0_eq (c : Dev nD) (t : Fin cfg0.N) : wgt0 V c t = V c main_arg5 := by
  funext y; blk_ext [wgt0, iblk0, idx0_5 t]

/-! ## The three arrays after the call -/

/-- The combined matrix, with its self loops; -/
def hat0 (c : Dev nD) (i j : Fin 4096) : EReal := hat (V c main_arg1) (V c main_arg2) (V c main_arg3) (al0 V c) i j
def lin0 (c : Dev nD) (b : Fin 8) (i : Fin 4096) (k : Fin 128) : EReal := lin (V c main_arg0) (V c main_arg5) b i k

theorem comb_final (c : Dev nD) :
    (dat0 V c).arrAt 6 cfg0.N = (fun y => hat0 V c (y 0) (y 1) : FVec Ideal S4096x4096 .bf16) := by
  refine (dat0 V c).arrAt_eq_of_covers 6 _ (by decide +kernel) fun t _ y => ?_
  blk_simp
  rw [after0_6]
  obtain ⟨r, l, rfl⟩ : ∃ (r : Fin 256) (l : Fin 4096), y = ix2 r l := ⟨y 0, y 1, funext fun a => by fin_cases a <;> rfl⟩
  refine (comb_out V c t r l).trans ?_
  rw [part0_apply, coord0]
  have hi : (win0_6.blk t).view.emb (ix2 r l) = ix2 (row0 t r) l := by blk_ext [idx0_6 t]
  rw [hi]
  show _ = mix0 V c (row0 t r) l + (if row0 t r = l then (1 : EReal) else 0)
  refine congrArg (mix0 V c (row0 t r) l + ·) (if_congr ?_ rfl rfl)
  rw [Fin.ext_iff]
  show _ ↔ t.val * 256 + r.val = l.val
  omega

/-- the column sums; -/
theorem col_final (c : Dev nD) :
    (dat0 V c).arrAt 7 cfg0.N = (fun y => ∑ i : Fin 4096, mix0 V c i (y 1) : FVec Ideal S1x4096 .f32) := by
  refine (dat0 V c).arrAt_eq_of_covers 7 _ (by decide +kernel) fun t hf y => ?_
  blk_simp
  rw [after0_7]
  have ht : t.val + 1 = cfg0.N := by have := (flush0_7 t).mp hf; have := lt0 t; show t.val + 1 = 16; omega
  obtain ⟨l, rfl⟩ : ∃ l : Fin 4096, y = ix2 0 l := ⟨y 1, funext fun a => by
    match a with
    | ⟨0, _⟩ => exact Subsingleton.elim (α := Fin 1) _ _
    | ⟨1, _⟩ => rfl⟩
  refine (col_out V c t ht l).trans ?_
  have hi : (win0_7.blk t).view.emb (ix2 0 l) = ix2 0 l := by blk_ext [idx0_7 t]
  rw [hi]
  refine (Finset.sum_congr rfl fun p _ => Finset.sum_congr rfl fun r _ => part0_apply V c p r l).trans ?_
  exact (Fin.sum_univ_tiles 16 256 (N := 4096) (by decide) fun i => mix0 V c i l).symm

/-- Column `k` of sample `b`, among the eight samples' columns side by side. -/
abbrev col8 (b : Fin 8) (k : Fin 128) : Fin 1024 := ⟨b.val * 128 + k.val, by omega⟩

/-- The eight samples' transformed features side by side. -/
def linArr (c : Dev nD) : FVec Ideal S4096x1024 .bf16 := fun y =>
  lin0 V c ⟨(y 1).val / 128, by have : (y 1).val < 1024 := (y 1).isLt; omega⟩ (y 0) ⟨(y 1).val % 128, Nat.mod_lt _ (by decide)⟩

theorem linArr_apply (c : Dev nD) (i : Fin 4096) (b : Fin 8) (k : Fin 128) : linArr V c (ix2 i (col8 b k)) = lin0 V c b i k := by
  have hb : (⟨(b.val * 128 + k.val) / 128, by omega⟩ : Fin 8) = b := Fin.ext (by show (b.val * 128 + k.val) / 128 = b.val; omega)
  have hk : (⟨(b.val * 128 + k.val) % 128, Nat.mod_lt _ (by decide)⟩ : Fin 128) = k :=
    Fin.ext (by show (b.val * 128 + k.val) % 128 = k.val; omega)
  show lin0 V c ⟨(b.val * 128 + k.val) / 128, _⟩ i ⟨(b.val * 128 + k.val) % 128, _⟩ = _
  rw [hb, hk]

/-- and these. -/
theorem lin_final (c : Dev nD) : (dat0 V c).arrAt 8 cfg0.N = linArr V c := by
  refine (dat0 V c).arrAt_eq_of_covers 8 _ (by decide +kernel) fun t _ y => ?_
  blk_simp
  rw [after0_8]
  have hy : (y 1).val < 1024 := (y 1).isLt
  obtain ⟨r, b, k, rfl⟩ : ∃ (r : Fin 256) (b : Fin 8) (k : Fin 128), y = ix2 r (col8 b k) :=
    ⟨y 0, ⟨(y 1).val / 128, by omega⟩, ⟨(y 1).val % 128, Nat.mod_lt _ (by decide)⟩, funext fun a => by
      match a with
      | ⟨0, _⟩ => rfl
      | ⟨1, _⟩ => exact Fin.ext (by show (y 1).val = (y 1).val / 128 * 128 + (y 1).val % 128; omega)⟩
  refine (lin_out V c t r b k).trans ?_
  have hi : (win0_8.blk t).view.emb (ix2 r (col8 b k)) = ix2 (row0 t r) (col8 b k) := by blk_ext [idx0_8 t]
  rw [hi, wgt0_eq, linArr_apply]
  exact Finset.sum_congr rfl fun h _ => congrArg (· * _) (feat0_apply V c t b r h)

end Cert.Hand
-- ==== Proof.Value1.lean ====
module

public import proofs.«01_k».proof.Proof.Run
public import proofs.«01_k».proof.Proof.Pay
public import Idealize.ShloMosaic.Lib.Pipeline.ValueKit

@[expose] public section

set_option maxRecDepth 16384

noncomputable section

namespace Cert.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable (V : (c : Dev nD) → (b : Ref sig .tc) → Buf (Elt Ideal) ((c : Thread nD τ).loc b))

/-! # What the second call leaves in its array -/

theorem idx1_0 : ∀ t : Fin cfg1.N, win1_0.index t = ![0, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, t.val] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, t.val, 0] := (by decide +kernel : ∀ t : Fin grid1.N, _)
theorem lt1 (t : Fin cfg1.N) : t.val < 4 := t.isLt

/-- Row `r` of point `t`'s block, as a node. -/
abbrev node1 (t : Fin cfg1.N) (r : Fin 1024) : Fin 4096 := ⟨t.val * 1024 + r.val, by have := lt1 t; omega⟩
/-- Column `k` of sample `b`, among the eight samples' columns side by side. -/
abbrev col1 (b : Fin 8) (k : Fin 128) : Fin 1024 := ⟨b.val * 128 + k.val, by omega⟩

/-- The degrees less one, the bias, the combined matrix and the transformed features the call is given. -/
def deg1 (c : Dev nD) : FVec Ideal S4096x1 .f32 := V c main_v2
def bias1 (c : Dev nD) : FVec Ideal S1x128 .f32 := V c main_v3
def comb1 (c : Dev nD) : FVec Ideal S4096x4096 .bf16 := V c main_v1_0
def feat1 (c : Dev nD) : FVec Ideal S4096x1024 .bf16 := V c main_v1_2

/-- The blocks of point `t`. -/
theorem deg1_blk (c : Dev nD) (t : Fin cfg1.N) : (iblk1 V c 0 t : FVec Ideal S4096x1 .f32) = deg1 V c := by
  funext y; blk_ext [iblk1, deg1, idx1_0 t]
theorem node1_blk (c : Dev nD) (t : Fin cfg1.N) (r : Fin 1024) :
    (iblk1 V c 1 t : FVec Ideal S1024x1 .f32) (ix2 r 0) = deg1 V c (ix2 (node1 t r) 0) := by
  blk_ext [iblk1, deg1, idx1_1 t]
theorem bias1_blk (c : Dev nD) (t : Fin cfg1.N) : (iblk1 V c 2 t : FVec Ideal S1x128 .f32) = bias1 V c := by
  funext y; blk_ext [iblk1, bias1, idx1_2 t]
theorem comb1_blk (c : Dev nD) (t : Fin cfg1.N) (i : Fin 4096) (r : Fin 1024) :
    (iblk1 V c 3 t : FVec Ideal S4096x1024 .bf16) (ix2 i r) = comb1 V c (ix2 i (node1 t r)) := by
  blk_ext [iblk1, comb1, idx1_3 t]
theorem feat1_blk (c : Dev nD) (t : Fin cfg1.N) : (iblk1 V c 4 t : FVec Ideal S4096x1024 .bf16) = feat1 V c := by
  funext y; blk_ext [iblk1, feat1, idx1_4 t]

/-- The scaled features, computed once and kept. -/
def kept (c : Dev nD) : FVec Ideal S4096x1024 .bf16 := k1_pay2 (F := Ideal) (deg1 V c) (feat1 V c)

theorem kept_blk (c : Dev nD) (t : Fin cfg1.N) : k1_pay2 (F := Ideal) (iblk1 V c 0 t) (iblk1 V c 4 t) = kept V c :=
  congrArg₂ (k1_pay2 (F := Ideal)) (deg1_blk V c t) (feat1_blk V c t)

theorem kept_later (c : Dev nD) (t : Fin cfg1.N) (h : t.val ≠ 0) (xs : Vec Ideal S4096x1024 .bf16) : (outs1_B V c t h xs).2 = xs := rfl

/-- Every point leaves them in the scratch. -/
theorem kept_out (c : Dev nD) (n : ℕ) (hn : n < cfg1.N) : (outsAt1 V c n hn).2 = kept V c := by
  induction n with
  | zero =>
    rw [outsAt1_A V c ⟨0, hn⟩ rfl]
    unfold outs1_A run1_A kernelRun1_A
    frame_out
    exact kept_blk V c _
  | succ n ih =>
    show (outs1_B V c ⟨n + 1, hn⟩ (Nat.succ_ne_zero n) (outsAt1 V c n (Nat.lt_of_succ_lt hn)).2).2 = _
    rw [kept_later, ih]

/-- What node `r` of point `t` gets, sample `b`, feature `k`. -/
def outAt (c : Dev nD) (b : Fin 8) (j : Fin 4096) (k : Fin 128) : EReal :=
  Ideal.rsqrt (deg1 V c (ix2 j 0) + 1)
    * (∑ i : Fin 4096, comb1 V c (ix2 i j) * (Ideal.rsqrt (deg1 V c (ix2 i 0) + 1) * feat1 V c (ix2 i (col1 b k)))) + bias1 V c (ix2 0 k)

/-- One sample's tile at an index of the eight samples' block. -/
theorem out_piece (c : Dev nD) (t : Fin cfg1.N) (o : Nat) (hs) (X : FVec Ideal S4096x1024 .bf16) (hX : X = kept V c)
    (x : S1x1024x128.Idx) (b' : Fin 8) (r : Fin 1024) (k : Fin 128)
    (h1 : r.val = (x 1).val) (h2 : k.val = (x 2).val) (ho : o = b'.val * 128) :
    Pay.tile o hs (iblk1 V c 1 t) (iblk1 V c 2 t) (k1_pay5 (F := Ideal) (iblk1 V c 3 t) X) x = outAt V c b' (node1 t r) k := by
  subst hX
  have ex : x = ix3 0 r k := by
    funext a
    match a with
    | ⟨0, _⟩ => exact Subsingleton.elim (α := Fin 1) _ _
    | ⟨1, _⟩ => exact Fin.ext h1.symm
    | ⟨2, _⟩ => exact Fin.ext h2.symm
  rw [ex, Pay.tile_apply o hs _ _ _ r k (col1 b' k) (by show b'.val * 128 + k.val = _; omega), Pay.prod_apply, node1_blk, bias1_blk]
  refine congrArg (fun s => Ideal.rsqrt (deg1 V c (ix2 (node1 t r) 0) + 1) * s + bias1 V c (ix2 0 k)) (Finset.sum_congr rfl fun i _ => ?_)
  rw [comb1_blk]
  exact congrArg (comb1 V c (ix2 i (node1 t r)) * ·) (Pay.scaled_apply _ _ i _)

/-- What every point leaves in its block. -/
theorem out_out (c : Dev nD) (t : Fin cfg1.N) (b : Fin 8) (r : Fin 1024) (k : Fin 128) :
    (outsAt1 V c t.val t.isLt).1 (ix3 b r k) = outAt V c b (node1 t r) k := by
  by_cases h : t.val = 0
  · rw [outsAt1_A V c t h]
    unfold outs1_A run1_A kernelRun1_A
    frame_out
    canon_tiles x hx
    all_goals
      refine out_piece V c t _ _ _ (kept_blk V c t) x b r k hx1 hx2 ?_
      change b.val = _ at hx0
      omega
  · have hk := kept_out V c (t.val - 1) (Nat.lt_of_le_of_lt (Nat.sub_le _ _) t.isLt)
    rw [outsAt1_B V c t h]
    unfold outs1_B run1_B kernelRun1_B
    frame_out
    canon_tiles x hx
    all_goals
      refine out_piece V c t _ _ _ ((Memref.IsWhole.read_unread _ _).trans hk) x b r k hx1 hx2 ?_
      change b.val = _ at hx0
      omega

/-- The result array. -/
theorem out_final (c : Dev nD) :
    (dat1 V c).arrAt 5 cfg1.N = (fun y => outAt V c (y 0) (y 1) (y 2) : FVec Ideal S8x4096x128 .f32) := by
  refine (dat1 V c).arrAt_eq_of_covers 5 _ (by decide +kernel) fun t _ y => ?_
  blk_simp
  rw [after1_5]
  obtain ⟨b, r, k, rfl⟩ : ∃ (b : Fin 8) (r : Fin 1024) (k : Fin 128), y = ix3 b r k :=
    ⟨y 0, y 1, y 2, funext fun a => by fin_cases a <;> rfl⟩
  refine (out_out V c t b r k).trans ?_
  have hi : (win1_5.blk t).view.emb (ix3 b r k) = ix3 b (node1 t r) k := by blk_ext [idx1_5 t]
  rw [hi]
  rfl

end Cert.Hand
-- ==== Proof.Ref.lean ====
module

public import proofs.«01_k».proof.Proof.Spec
public import proofs.«01_k».proof.Proof.Gen.ReferenceIdeal.Run
public import proofs.«01_k».proof.Proof.Gen.Pre_degrees_positive
public import Idealize.ShloMosaic.Lib.WordCmp

@[expose] public section

set_option maxRecDepth 16384

noncomputable section

namespace Cert.Hand.Ref

open Cert.ReferenceIdeal Cert.ReferenceIdeal.Gen Idealize.ShloMosaic Idealize.ShloMosaic.TcCoe
open Cert.ReferenceIdeal.Facts

/-! # The reference's result, in named stages, and each stage at an index -/

/-- The exponentials of the logits less their maximum. -/
def exps (al : FVec Ideal S3 .f32) : FVec Ideal S3 .f32 :=
  Host.exp (subf al (broadcastInDim S3 ![0] bcast_S1_S3_0 (broadcastInDim S1 ![] bcast_S_S1
    (maximumf (constant S_ .f32 0xFF800000#32) (Host.reduce FloatOps.maximumf al (constant S_ .f32 0xFF800000#32) reducesTo_S3_S_d0 h_S_)))))

/-- The softmax of the logits. -/
def weights (al : FVec Ideal S3 .f32) : FVec Ideal S3 .f32 :=
  Host.divf (exps al) (broadcastInDim S3 ![0] bcast_S1_S3_0 (broadcastInDim S1 ![] bcast_S_S1
    (Host.reduceAdd (exps al) (constant S_ .f32 0x00000000#32) reducesTo_S3_S_d0 h_S_)))

/-- The weighted adjacency with self loops. -/
def adj (a1 a2 a3 : FVec Ideal S4096x4096 .f32) (al : FVec Ideal S3 .f32) : FVec Ideal S4096x4096 .f32 :=
  addf (addf (addf
    (mulf (broadcastInDim S4096x4096 ![] bcast_S_S4096x4096 (shapeCast S_ (extractStridedSlice S1 ![0] (weights al) slices_S3_S1_0) shapeCasts_S1_S_)) a1)
    (mulf (broadcastInDim S4096x4096 ![] bcast_S_S4096x4096 (shapeCast S_ (extractStridedSlice S1 ![1] (weights al) slices_S3_S1_1) shapeCasts_S1_S_)) a2))
    (mulf (broadcastInDim S4096x4096 ![] bcast_S_S4096x4096 (shapeCast S_ (extractStridedSlice S1 ![2] (weights al) slices_S3_S1_2) shapeCasts_S1_S_)) a3))
    (uitofp .f32 (cmpi .eq (addi (iotaInDim S4096x4096 32 0) (broadcastInDim S4096x4096 ![] bcast_S_S4096x4096 (constantI S_ 32 0#32))) (iotaInDim S4096x4096 32 1)))

/-- The degrees. -/
def degs (A : FVec Ideal S4096x4096 .f32) : FVec Ideal S4096 .f32 :=
  Host.reduceAdd A (constant S_ .f32 0x00000000#32) reducesTo_S4096x4096_S4096_d0 h_S_

/-- Which degrees are positive. -/
def pos (g : FVec Ideal S4096 .f32) : IVec S4096 1 :=
  cmpf .ogt g (broadcastInDim S4096 ![] bcast_S_S4096 (constant S_ .f32 0x00000000#32))

/-- The result from the adjacency, the scale, the features, the transformation and the bias. -/
def result (A : FVec Ideal S4096x4096 .f32) (d : FVec Ideal S4096 .f32) (f : FVec Ideal S8x4096x128 .f32)
    (w : FVec Ideal S128x128 .f32) (bias : FVec Ideal S128 .f32) : FVec Ideal S8x4096x128 .f32 :=
  addf (transpose S8x4096x128 [0, 2, 1] (Host.dotGeneral dot_S8x4096x128_S4096x4096_S8x128x4096_1_0_02_1_n_n none
      (Host.dotGeneral dot_S8x4096x128_S128x128_S8x4096x128_2_0_01_1_n_n none f w)
      (mulf (mulf (broadcastInDim S4096x4096 ![0, 1] bcast_S4096x1_S4096x4096_0_1 (broadcastInDim S4096x1 ![0] bcast_S4096_S4096x1_0 d)) A)
        (broadcastInDim S4096x4096 ![0, 1] bcast_S1x4096_S4096x4096_0_1 (broadcastInDim S1x4096 ![1] bcast_S4096_S1x4096_1 d))))
    transposes_S8x128x4096_S8x4096x128_0_2_1)
    (broadcastInDim S8x4096x128 ![0, 1, 2] bcast_S1x1x128_S8x4096x128_0_1_2 (broadcastInDim S1x1x128 ![2] bcast_S128_S1x1x128_2 bias))

/-- The scale: the reciprocal root of a positive degree, zero elsewhere. -/
def scale (g : FVec Ideal S4096 .f32) : FVec Ideal S4096 .f32 :=
  select (pos g) (Host.divf (broadcastInDim S4096 ![] bcast_S_S4096 (constant S_ .f32 0x3F800000#32)) (Host.sqrt g))
    (broadcastInDim S4096 ![] bcast_S_S4096 (id (constant S_ .f32 0x00000000#32)))

theorem res_eq (m : (ℓ : Loc nD τ sig) → Buf (Elt Ideal) ℓ) (c : Dev nD) :
    Cert.ReferenceIdeal.Value.res_main_v49 m c
      = result (adj (m ((c.tc : Thread nD τ).loc main_arg1)) (m ((c.tc : Thread nD τ).loc main_arg2)) (m ((c.tc : Thread nD τ).loc main_arg3)) (m ((c.tc : Thread nD τ).loc main_arg4)))
          (scale (degs (adj (m ((c.tc : Thread nD τ).loc main_arg1)) (m ((c.tc : Thread nD τ).loc main_arg2)) (m ((c.tc : Thread nD τ).loc main_arg3)) (m ((c.tc : Thread nD τ).loc main_arg4)))))
          (m ((c.tc : Thread nD τ).loc main_arg0)) (m ((c.tc : Thread nD τ).loc main_arg5)) (m ((c.tc : Thread nD τ).loc main_arg6)) := rfl

theorem pre_eq (f : FVec Ideal S8x4096x128 .f32) (a1 a2 a3 : FVec Ideal S4096x4096 .f32) (al : FVec Ideal S3 .f32)
    (w : FVec Ideal S128x128 .f32) (bias : FVec Ideal S128 .f32) :
    Cert.Pre_degrees_positive.fn (F := Ideal) f a1 a2 a3 al w bias = pos (degs (adj a1 a2 a3 al)) := rfl

theorem exps_apply (al : FVec Ideal S3 .f32) (k : Fin 3) : exps al (ix1 k) = Ideal.exp (al (ix1 k) - top al) := by
  pointwise [exps]
  rw [bits_bot, max_eq_right bot_le]
  rfl

theorem weights_apply (al : FVec Ideal S3 .f32) (k : Fin 3) : weights al (ix1 k) = wt al k := by
  pointwise [weights]
  simp only [exps_apply]
  rfl

theorem adj_apply (a1 a2 a3 : FVec Ideal S4096x4096 .f32) (al : FVec Ideal S3 .f32) (i j : Fin 4096) :
    adj a1 a2 a3 al (ix2 i j) = hat a1 a2 a3 al i j := by
  pointwise [adj]
  rw [weights_apply, weights_apply, weights_apply]
  refine congrArg (mix a1 a2 a3 al i j + ·) ?_
  have e : IntOp.addi (BitVec.ofNat 32 i.val) 0#32 = BitVec.ofNat 32 i.val := BitVec.add_zero _
  rw [e, WordCmp.cmpi_eq_ofNat (lt_trans i.isLt (by decide)) (lt_trans j.isLt (by decide))]
  by_cases h : i = j
  · rw [if_pos h, decide_eq_true (congrArg Fin.val h)]
    exact bit_one
  · rw [if_neg h, decide_eq_false fun h' => h (Fin.ext h')]
    exact bit_zero

theorem degs_apply (A : FVec Ideal S4096x4096 .f32) (j : Fin 4096) : degs A (ix1 j) = ∑ i : Fin 4096, A (ix2 i j) := by
  pointwise [degs]

theorem pos_apply (g : FVec Ideal S4096 .f32) (j : Fin 4096) : pos g (ix1 j) = 1#1 ↔ 0 < g (ix1 j) := by
  pointwise [pos]
  by_cases h : 0 < g (ix1 j) <;> simp [h]

theorem scale_apply (g : FVec Ideal S4096 .f32) (j : Fin 4096) (h : 0 < g (ix1 j)) : scale g (ix1 j) = Ideal.rsqrt (g (ix1 j)) := by
  have hp := (pos_apply g j).mpr h
  unfold scale
  pointwise
  rw [hp]
  exact div_one_sqrt h

theorem result_apply (A : FVec Ideal S4096x4096 .f32) (d : FVec Ideal S4096 .f32) (f : FVec Ideal S8x4096x128 .f32)
    (w : FVec Ideal S128x128 .f32) (bias : FVec Ideal S128 .f32) (b : Fin 8) (j : Fin 4096) (k : Fin 128) :
    result A d f w bias (ix3 b j k) = (∑ i : Fin 4096, lin f w b i k * ((d (ix1 i) * A (ix2 i j)) * d (ix1 j))) + bias (ix1 k) := by
  pointwise [result]
  rfl

/-- The reference's result where every degree is positive. -/
theorem reference_apply (f : FVec Ideal S8x4096x128 .f32) (a1 a2 a3 : FVec Ideal S4096x4096 .f32) (al : FVec Ideal S3 .f32)
    (w : FVec Ideal S128x128 .f32) (bias : FVec Ideal S128 .f32)
    (hpre : Cert.Pre_degrees_positive.fn (F := Ideal) f a1 a2 a3 al w bias = fun _ => 1#1) (b : Fin 8) (j : Fin 4096) (k : Fin 128) :
    result (adj a1 a2 a3 al) (scale (degs (adj a1 a2 a3 al))) f w bias (ix3 b j k)
      = Ideal.rsqrt (dg a1 a2 a3 al j) * (∑ i : Fin 4096, hat a1 a2 a3 al i j * (Ideal.rsqrt (dg a1 a2 a3 al i) * lin f w b i k))
        + bias (ix1 k) := by
  have hd : ∀ i : Fin 4096, degs (adj a1 a2 a3 al) (ix1 i) = dg a1 a2 a3 al i := fun i => by
    rw [degs_apply]; exact Finset.sum_congr rfl fun r _ => adj_apply a1 a2 a3 al r i
  have hp : ∀ i : Fin 4096, 0 < dg a1 a2 a3 al i := fun i => by
    rw [← hd]; exact (pos_apply _ i).mp (congrFun ((pre_eq f a1 a2 a3 al w bias).symm.trans hpre) (ix1 i))
  have hs : ∀ i : Fin 4096, scale (degs (adj a1 a2 a3 al)) (ix1 i) = Ideal.rsqrt (dg a1 a2 a3 al i) := fun i => by
    rw [scale_apply _ i (by rw [hd]; exact hp i), hd]
  rw [result_apply]
  simp only [hs, adj_apply]
  rw [scaled_sum (fun i => Ideal.rsqrt (dg a1 a2 a3 al i)) (fun i => hat a1 a2 a3 al i j) (fun i => lin f w b i k) _
    (rsqrt_real (hp j)).1 (rsqrt_real (hp j)).2]

end Cert.Hand.Ref

end
-- ==== Proof.Value.lean ====
module

public import proofs.«01_k».proof.Defs
public import proofs.«01_k».proof.Proof.Value0
public import proofs.«01_k».proof.Proof.Value1
public import proofs.«01_k».proof.Proof.Ref

@[expose] public section

set_option maxRecDepth 16384

noncomputable section

namespace Cert.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable (m : (ℓ : Loc nD τ sig) → Buf (Elt Ideal) ℓ) (ρ : Dev nD → PrngReg)

/-! # The result as a function of the arguments -/

/-- A vector laid out as one row. -/
theorem row_cast (x : FVec Ideal S3 .f32) : Pay.row (shapeCast S1x3 x shapeCasts_S3_S1x3) = x := by
  funext k
  obtain ⟨k, rfl⟩ : ∃ k' : Fin 3, k = ix1 k' := ⟨k 0, funext fun a => by fin_cases a; rfl⟩
  unfold Pay.row
  pointwise

/-- A row laid out as a column. -/
theorem col_cast (x : FVec Ideal S1x4096 .f32) (i : Fin 4096) : shapeCast S4096x1 x shapeCasts_S1x4096_S4096x1 (ix2 i 0) = x (ix2 0 i) := by
  pointwise

/-- The bias laid out as one row. -/
theorem bias_cast (x : FVec Ideal S128 .f32) (k : Fin 128) : shapeCast S1x128 x shapeCasts_S128_S1x128 (ix2 0 k) = x (ix1 k) := by
  pointwise

/-- The logits the first call is given are the argument's. -/
theorem al_eq (c : Dev nD) : al0 (V1 m ρ) c = m ((c : Thread nD τ).loc main_arg4) := by
  have e : V1 m ρ c main_v0 = (shapeCast S1x3 (m ((c : Thread nD τ).loc main_arg4) : FVec Ideal S3 .f32) shapeCasts_S3_S1x3 : FVec Ideal S1x3 .f32) := rfl
  unfold al0
  rw [e]
  exact row_cast _

/-- The degrees the second call is given are the first call's column sums. -/
theorem deg_eq (c : Dev nD) (i : Fin 4096) :
    deg1 (V3 m ρ) c (ix2 i 0) = ∑ p : Fin 4096, mix0 (V1 m ρ) c p i := by
  have e : V3 m ρ c main_v2 = (shapeCast S4096x1 (W2 m ρ c (Proc.devRef .tc (Pipeline.arrRef spec0 7)) : FVec Ideal S1x4096 .f32) shapeCasts_S1x4096_S4096x1 : FVec Ideal S4096x1 .f32) := rfl
  unfold deg1
  rw [e, W2_arr, col_final]
  exact col_cast _ i

/-- The bias the second call is given is the argument's. -/
theorem bias_eq (c : Dev nD) (k : Fin 128) : bias1 (V3 m ρ) c (ix2 0 k) = m ((c : Thread nD τ).loc main_arg6) (ix1 k) := by
  have e : V3 m ρ c main_v3 = (shapeCast S1x128 (W2 m ρ c main_arg6 : FVec Ideal S128 .f32) shapeCasts_S128_S1x128 : FVec Ideal S1x128 .f32) := rfl
  unfold bias1
  rw [e, W2_args m ρ c main_arg6 (by decide)]
  exact bias_cast _ k

/-- The matrix the second call is given is the first call's. -/
theorem comb_eq (c : Dev nD) (i j : Fin 4096) : comb1 (V3 m ρ) c (ix2 i j) = hat0 (V1 m ρ) c i j := by
  have e : V3 m ρ c main_v1_0 = W2 m ρ c (Proc.devRef .tc (Pipeline.arrRef spec0 6)) := W3_of m ρ c _ (by decide)
  unfold comb1
  rw [e, W2_arr, comb_final]
  rfl

/-- The features the second call is given are the first call's. -/
theorem feat_eq (c : Dev nD) (i : Fin 4096) (b : Fin 8) (k : Fin 128) :
    feat1 (V3 m ρ) c (ix2 i (col1 b k)) = lin0 (V1 m ρ) c b i k := by
  have e : V3 m ρ c main_v1_2 = W2 m ρ c (Proc.devRef .tc (Pipeline.arrRef spec0 8)) := W3_of m ρ c _ (by decide)
  unfold feat1
  rw [e, W2_arr, lin_final]
  exact linArr_apply _ c i b k

/-- The arguments are as launched when the first call begins. -/
theorem V1_args (c : Dev nD) (a : Ref sig .tc) (h : a ∈ argRefs) : V1 m ρ c a = m ((c : Thread nD τ).loc a) := W1_args m ρ c a h

/-- The mixture of the three matrices, of the arguments. -/
theorem mix0_args (c : Dev nD) (i j : Fin 4096) :
    mix0 (V1 m ρ) c i j
      = mix (m ((c : Thread nD τ).loc main_arg1)) (m ((c : Thread nD τ).loc main_arg2)) (m ((c : Thread nD τ).loc main_arg3)) (m ((c : Thread nD τ).loc main_arg4)) i j := by
  unfold mix0
  rw [al_eq, V1_args m ρ c main_arg1 (by decide), V1_args m ρ c main_arg2 (by decide), V1_args m ρ c main_arg3 (by decide)]

/-- The mixture with self loops, of the arguments. -/
theorem hat0_args (c : Dev nD) (i j : Fin 4096) :
    hat0 (V1 m ρ) c i j
      = hat (m ((c : Thread nD τ).loc main_arg1)) (m ((c : Thread nD τ).loc main_arg2)) (m ((c : Thread nD τ).loc main_arg3)) (m ((c : Thread nD τ).loc main_arg4)) i j := by
  unfold hat0
  rw [al_eq, V1_args m ρ c main_arg1 (by decide), V1_args m ρ c main_arg2 (by decide), V1_args m ρ c main_arg3 (by decide)]

/-- The transformed features, of the arguments. -/
theorem lin0_args (c : Dev nD) (b : Fin 8) (i : Fin 4096) (k : Fin 128) :
    lin0 (V1 m ρ) c b i k = lin (m ((c : Thread nD τ).loc main_arg0)) (m ((c : Thread nD τ).loc main_arg5)) b i k := by
  unfold lin0
  rw [V1_args m ρ c main_arg0 (by decide), V1_args m ρ c main_arg5 (by decide)]

/-- A column sum with the self loop added is the node's degree. -/
theorem deg_args (c : Dev nD) (j : Fin 4096) :
    deg1 (V3 m ρ) c (ix2 j 0) + 1
      = dg (m ((c : Thread nD τ).loc main_arg1)) (m ((c : Thread nD τ).loc main_arg2)) (m ((c : Thread nD τ).loc main_arg3)) (m ((c : Thread nD τ).loc main_arg4)) j := by
  rw [deg_eq, dg_eq]
  exact congrArg (· + 1) (Finset.sum_congr rfl fun i _ => mix0_args m ρ c i j)

/-- An entry of the second call's output, of the arguments. -/
theorem outAt_args (c : Dev nD) (b : Fin 8) (j : Fin 4096) (k : Fin 128) :
    outAt (V3 m ρ) c b j k
      = Ideal.rsqrt (dg (m ((c : Thread nD τ).loc main_arg1)) (m ((c : Thread nD τ).loc main_arg2)) (m ((c : Thread nD τ).loc main_arg3)) (m ((c : Thread nD τ).loc main_arg4)) j)
          * (∑ i : Fin 4096,
              hat (m ((c : Thread nD τ).loc main_arg1)) (m ((c : Thread nD τ).loc main_arg2)) (m ((c : Thread nD τ).loc main_arg3)) (m ((c : Thread nD τ).loc main_arg4)) i j
                * (Ideal.rsqrt (dg (m ((c : Thread nD τ).loc main_arg1)) (m ((c : Thread nD τ).loc main_arg2)) (m ((c : Thread nD τ).loc main_arg3)) (m ((c : Thread nD τ).loc main_arg4)) i)
                  * lin (m ((c : Thread nD τ).loc main_arg0)) (m ((c : Thread nD τ).loc main_arg5)) b i k))
        + m ((c : Thread nD τ).loc main_arg6) (ix1 k) := by
  unfold outAt
  rw [deg_args, bias_eq]
  congr 2
  refine Finset.sum_congr rfl fun i _ => ?_
  rw [deg_args, comb_eq, feat_eq, hat0_args, lin0_args]

/-- Where every degree is positive the kernel's result is the reference's. -/
theorem value_eq (c : Dev nD)
    (hpre : Cert.Pre_degrees_positive.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    (dat1 (V3 m ρ) c).arrAt 5 cfg1.N
      = Ref.result (Ref.adj (m ((c : Thread nD τ).loc main_arg1)) (m ((c : Thread nD τ).loc main_arg2)) (m ((c : Thread nD τ).loc main_arg3)) (m ((c : Thread nD τ).loc main_arg4)))
          (Ref.scale (Ref.degs (Ref.adj (m ((c : Thread nD τ).loc main_arg1)) (m ((c : Thread nD τ).loc main_arg2)) (m ((c : Thread nD τ).loc main_arg3)) (m ((c : Thread nD τ).loc main_arg4)))))
          (m ((c : Thread nD τ).loc main_arg0)) (m ((c : Thread nD τ).loc main_arg5)) (m ((c : Thread nD τ).loc main_arg6)) := by
  rw [out_final]
  funext y
  obtain ⟨b, j, k, rfl⟩ : ∃ (b : Fin 8) (j : Fin 4096) (k : Fin 128), y = ix3 b j k :=
    ⟨y 0, y 1, y 2, funext fun a => by fin_cases a <;> rfl⟩
  rw [Ref.reference_apply _ _ _ _ _ _ _ hpre b j k]
  exact outAt_args m ρ c b j k

/-- The idealized kernel and the reference return equal arrays from equal arguments. -/
theorem algebraic : Cert.algebraic_KernelIdeal_ReferenceIdeal_pre_degrees_positive := by
  intro m g m' g' hpre hargs
  refine ⟨fun c => (dat1 (V3 m g) c).arrAt 5 cfg1.N, (θ_run _ _ _).mono (fun r h => h.1) (run m g), ?_⟩
  refine (θ_run _ _ _).mono (fun r h c => ⟨(h c).1.trans ?_, (h c).2⟩) (Cert.ReferenceIdeal.Value.run m' g')
  obtain ⟨h0, h1, h2, h3, h4, h5, h6⟩ := hargs c
  rw [Ref.res_eq, h0, h1, h2, h3, h4, h5, h6]
  exact (value_eq m g c (hpre c)).symm

end Cert.Hand
-- ==== Proof.lean ====
module

public import proofs.«01_k».proof.Defs
public import proofs.«01_k».proof.Proof.Transfer
public import proofs.«01_k».proof.Proof.RefFrame
public import proofs.«01_k».proof.Proof.Value

@[expose] public section

namespace Cert.Proof

open Cert.Hand

/-- The claims: each program runs to the end and leaves its arguments, the kernel and its idealized
    form are one program, and the idealized kernel returns what the reference returns. -/
theorem claim : Cert.Claim :=
  ⟨Cert.Kernel.Gen.facts, Cert.KernelIdeal.Gen.facts, Cert.ReferenceIdeal.Gen.facts, Cert.Pre_degrees_positive.Gen.facts,
    quiescent_kernel, quiescent_kernelIdeal, quiescent_kernelIdeal_pre, quiescent_reference, quiescent_reference_pre,
    trivial, algebraic⟩

end Cert.Proof
